-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S2x512x4096 : Shape := ⟨3, ![2, 512, 4096]⟩
abbrev S2x4 : Shape := ⟨2, ![2, 4]⟩
abbrev S7x4 : Shape := ⟨2, ![7, 4]⟩
abbrev S_ : Shape := ⟨0, ![]⟩
abbrev S512x512 : Shape := ⟨2, ![512, 512]⟩
abbrev S512x4096 : Shape := ⟨2, ![512, 4096]⟩
abbrev S1x512x4096 : Shape := ⟨3, ![1, 512, 4096]⟩
abbrev S1x1 : Shape := ⟨2, ![1, 1]⟩
abbrev S1x512x1024 : Shape := ⟨3, ![1, 512, 1024]⟩
abbrev S512x1024 : Shape := ⟨2, ![512, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .i8⟩
  | .hbm, ⟨1, _⟩ => ⟨S512x8192, .i8⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .i8⟩
  | .local _ .vmem, ⟨1, _⟩ => ⟨S512x8192, .i8⟩
  | .local _ .vmem, ⟨2, _⟩ => ⟨S512x8192, .f32⟩
  | .local _ .vmem, ⟨3, _⟩ => ⟨S2x512x4096, .i32⟩
  | .local _ .vmem, ⟨4, _⟩ => ⟨S2x512x4096, .i32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let c8_i32_11 : BitVec 32 := 8#32
  let v14 : BitVec 32 := Scalar.addi v13 c8_i32_11
  let c8_i32_12 : BitVec 32 := 8#32
  let v15 : BitVec 32 := Scalar.remsi v14 c8_i32_12
  let c512_i32 : BitVec 32 := 512#32
  let v16 : BitVec 32 := Scalar.muli v15 c512_i32
  let v17 : Index := Scalar.indexCast v16
  let c0 : Index := 0#32
  ![v17.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v26 : BitVec 32 := Scalar.addi v2 c1_i32_18
  let c8_i32_19 : BitVec 32 := 8#32
  let v27 : BitVec 32 := Scalar.remsi v26 c8_i32_19
  let c512_i32_20 : BitVec 32 := 512#32
  let v28 : BitVec 32 := Scalar.muli v27 c512_i32_20
  let v29 : Index := Scalar.indexCast v28
  let c0_21 : Index := 0#32
  ![v29.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_35 : BitVec 32 := 1#32
  let v41 : BitVec 32 := Scalar.muli v7 c1_i32_35
  let v42 : BitVec 32 := Scalar.addi c0_i32_36 v41
  v42.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_47 : BitVec 32 := 1#32
  let v51 : BitVec 32 := Scalar.muli v7 c1_i32_47
  let v52 : BitVec 32 := Scalar.addi c0_i32_48 v51
  v52.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_58 : BitVec 32 := 1#32
  let v61 : BitVec 32 := Scalar.muli v7 c1_i32_58
  let v62 : BitVec 32 := Scalar.addi c0_i32_59 v61
  v62.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_68 : BitVec 32 := 1#32
  let v71 : BitVec 32 := Scalar.muli v7 c1_i32_68
  let v72 : BitVec 32 := Scalar.addi c0_i32_69 v71
  v72.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_79 : BitVec 32 := 1#32
  let v81 : BitVec 32 := Scalar.muli v5 c1_i32_79
  let v82 : BitVec 32 := Scalar.addi c0_i32_80 v81
  v82.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_91 : BitVec 32 := 1#32
  let v91 : BitVec 32 := Scalar.muli v5 c1_i32_91
  let v92 : BitVec 32 := Scalar.addi c0_i32_92 v91
  v92.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_103 : BitVec 32 := 1#32
  let v101 : BitVec 32 := Scalar.muli v5 c1_i32_103
  let v102 : BitVec 32 := Scalar.addi c0_i32_104 v101
  v102.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_115 : BitVec 32 := 1#32
  let v111 : BitVec 32 := Scalar.muli v5 c1_i32_115
  let v112 : BitVec 32 := Scalar.addi c0_i32_116 v111
  v112.toNat
def k0_off3 (d0 : Dev nD) (c0_i32_122 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_121 : BitVec 32 := 2#32
  let v121 : BitVec 32 := Scalar.subi v2 c2_i32_121
  let v122 : BitVec 32 := Scalar.subi v121 c0_i32_122
  let c16_i32 : BitVec 32 := 16#32
  let v123 : BitVec 32 := Scalar.addi v122 c16_i32
  let c8_i32_123 : BitVec 32 := 8#32
  let v124 : BitVec 32 := Scalar.remsi v123 c8_i32_123
  let c512_i32_127 : BitVec 32 := 512#32
  let v128 : BitVec 32 := Scalar.muli v124 c512_i32_127
  let v129 : Index := Scalar.indexCast v128
  let c0_128 : Index := 0#32
  ![v129.toNat, 0]
def k0_off4 (d0 : Dev nD) (c0_i32_125 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_124 : BitVec 32 := 2#32
  let v125 : BitVec 32 := Scalar.addi v2 c2_i32_124
  let v126 : BitVec 32 := Scalar.addi v125 c0_i32_125
  let c8_i32_126 : BitVec 32 := 8#32
  let v127 : BitVec 32 := Scalar.remsi v126 c8_i32_126
  let c512_i32_134 : BitVec 32 := 512#32
  let v137 : BitVec 32 := Scalar.muli v127 c512_i32_134
  let v138 : Index := Scalar.indexCast v137
  let c0_135 : Index := 0#32
  ![v138.toNat, 0]
def k0_dev11 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_383 : BitVec 32 := 1#32
  let v330 : BitVec 32 := Scalar.muli v5 c1_i32_383
  let v331 : BitVec 32 := Scalar.addi c0_i32_384 v330
  v331.toNat
def k0_dev12 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_386 : BitVec 32 := 1#32
  let v332 : BitVec 32 := Scalar.muli v7 c1_i32_386
  let v333 : BitVec 32 := Scalar.addi c0_i32_387 v332
  v333.toNat
def k0_dev13 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_396 : BitVec 32 := 1#32
  let v334 : BitVec 32 := Scalar.muli v7 c1_i32_396
  let v335 : BitVec 32 := Scalar.addi c0_i32_397 v334
  v335.toNat
def k0_dev14 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_408 : BitVec 32 := 1#32
  let v344 : BitVec 32 := Scalar.muli v7 c1_i32_408
  let v345 : BitVec 32 := Scalar.addi c0_i32_409 v344
  v345.toNat
def k0_dev15 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_420 : BitVec 32 := 1#32
  let v354 : BitVec 32 := Scalar.muli v7 c1_i32_420
  let v355 : BitVec 32 := Scalar.addi c0_i32_421 v354
  v355.toNat
def k0_dev16 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_432 : BitVec 32 := 1#32
  let v364 : BitVec 32 := Scalar.muli v7 c1_i32_432
  let v365 : BitVec 32 := Scalar.addi c0_i32_433 v364
  v365.toNat
def k0_dev17 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_444 : BitVec 32 := 1#32
  let v374 : BitVec 32 := Scalar.muli v5 c1_i32_444
  let v375 : BitVec 32 := Scalar.addi c0_i32_445 v374
  v375.toNat
def k0_dev18 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_456 : BitVec 32 := 1#32
  let v384 : BitVec 32 := Scalar.muli v5 c1_i32_456
  let v385 : BitVec 32 := Scalar.addi c0_i32_457 v384
  v385.toNat
def k0_dev19 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_468 : BitVec 32 := 1#32
  let v394 : BitVec 32 := Scalar.muli v5 c1_i32_468
  let v395 : BitVec 32 := Scalar.addi c0_i32_469 v394
  v395.toNat
def k0_dev20 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_480 : BitVec 32 := 1#32
  let v404 : BitVec 32 := Scalar.muli v5 c1_i32_480
  let v405 : BitVec 32 := Scalar.addi c0_i32_481 v404
  v405.toNat
def k0_dev21 (d0 : Dev nD) : Nat :=
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_756 : BitVec 32 := 1#32
  let v623 : BitVec 32 := Scalar.muli v5 c1_i32_756
  let v624 : BitVec 32 := Scalar.addi c0_i32_757 v623
  v624.toNat
def k0_dev22 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_759 : BitVec 32 := 1#32
  let v625 : BitVec 32 := Scalar.muli v7 c1_i32_759
  let v626 : BitVec 32 := Scalar.addi c0_i32_760 v625
  v626.toNat
def k0_dev23 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_769 : BitVec 32 := 1#32
  let v627 : BitVec 32 := Scalar.muli v7 c1_i32_769
  let v628 : BitVec 32 := Scalar.addi c0_i32_770 v627
  v628.toNat
def k0_dev24 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_781 : BitVec 32 := 1#32
  let v637 : BitVec 32 := Scalar.muli v7 c1_i32_781
  let v638 : BitVec 32 := Scalar.addi c0_i32_782 v637
  v638.toNat
def k0_dev25 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_793 : BitVec 32 := 1#32
  let v647 : BitVec 32 := Scalar.muli v7 c1_i32_793
  let v648 : BitVec 32 := Scalar.addi c0_i32_794 v647
  v648.toNat
def k0_dev26 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_805 : BitVec 32 := 1#32
  let v657 : BitVec 32 := Scalar.muli v7 c1_i32_805
  let v658 : BitVec 32 := Scalar.addi c0_i32_806 v657
  v658.toNat
def k0_dev27 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_817 : BitVec 32 := 1#32
  let v667 : BitVec 32 := Scalar.muli v5 c1_i32_817
  let v668 : BitVec 32 := Scalar.addi c0_i32_818 v667
  v668.toNat
def k0_dev28 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_829 : BitVec 32 := 1#32
  let v677 : BitVec 32 := Scalar.muli v5 c1_i32_829
  let v678 : BitVec 32 := Scalar.addi c0_i32_830 v677
  v678.toNat
def k0_dev29 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_841 : BitVec 32 := 1#32
  let v687 : BitVec 32 := Scalar.muli v5 c1_i32_841
  let v688 : BitVec 32 := Scalar.addi c0_i32_842 v687
  v688.toNat
def k0_dev30 (d0 : Dev nD) : Nat :=
  let c0_i32_854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_853 : BitVec 32 := 1#32
  let v697 : BitVec 32 := Scalar.muli v5 c1_i32_853
  let v698 : BitVec 32 := Scalar.addi c0_i32_854 v697
  v698.toNat
def k0_dev31 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1129 : BitVec 32 := 1#32
  let v916 : BitVec 32 := Scalar.muli v5 c1_i32_1129
  let v917 : BitVec 32 := Scalar.addi c0_i32_1130 v916
  v917.toNat
def k0_dev32 (d0 : Dev nD) : Nat :=
  let c0_i32_1133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1132 : BitVec 32 := 1#32
  let v918 : BitVec 32 := Scalar.muli v7 c1_i32_1132
  let v919 : BitVec 32 := Scalar.addi c0_i32_1133 v918
  v919.toNat
def k0_dev33 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1142 : BitVec 32 := 1#32
  let v920 : BitVec 32 := Scalar.muli v7 c1_i32_1142
  let v921 : BitVec 32 := Scalar.addi c0_i32_1143 v920
  v921.toNat
def k0_dev34 (d0 : Dev nD) : Nat :=
  let c0_i32_1155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1154 : BitVec 32 := 1#32
  let v930 : BitVec 32 := Scalar.muli v7 c1_i32_1154
  let v931 : BitVec 32 := Scalar.addi c0_i32_1155 v930
  v931.toNat
def k0_dev35 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1166 : BitVec 32 := 1#32
  let v940 : BitVec 32 := Scalar.muli v7 c1_i32_1166
  let v941 : BitVec 32 := Scalar.addi c0_i32_1167 v940
  v941.toNat
def k0_dev36 (d0 : Dev nD) : Nat :=
  let c0_i32_1179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1178 : BitVec 32 := 1#32
  let v950 : BitVec 32 := Scalar.muli v7 c1_i32_1178
  let v951 : BitVec 32 := Scalar.addi c0_i32_1179 v950
  v951.toNat
def k0_dev37 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1190 : BitVec 32 := 1#32
  let v960 : BitVec 32 := Scalar.muli v5 c1_i32_1190
  let v961 : BitVec 32 := Scalar.addi c0_i32_1191 v960
  v961.toNat
def k0_dev38 (d0 : Dev nD) : Nat :=
  let c0_i32_1203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1202 : BitVec 32 := 1#32
  let v970 : BitVec 32 := Scalar.muli v5 c1_i32_1202
  let v971 : BitVec 32 := Scalar.addi c0_i32_1203 v970
  v971.toNat
def k0_dev39 (d0 : Dev nD) : Nat :=
  let c0_i32_1215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1214 : BitVec 32 := 1#32
  let v980 : BitVec 32 := Scalar.muli v5 c1_i32_1214
  let v981 : BitVec 32 := Scalar.addi c0_i32_1215 v980
  v981.toNat
def k0_dev40 (d0 : Dev nD) : Nat :=
  let c0_i32_1227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1226 : BitVec 32 := 1#32
  let v990 : BitVec 32 := Scalar.muli v5 c1_i32_1226
  let v991 : BitVec 32 := Scalar.addi c0_i32_1227 v990
  v991.toNat
def k0_dev41 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1502 : BitVec 32 := 1#32
  let v1209 : BitVec 32 := Scalar.muli v5 c1_i32_1502
  let v1210 : BitVec 32 := Scalar.addi c0_i32_1503 v1209
  v1210.toNat
def k0_dev42 (d0 : Dev nD) : Nat :=
  let c0_i32_1506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1505 : BitVec 32 := 1#32
  let v1211 : BitVec 32 := Scalar.muli v7 c1_i32_1505
  let v1212 : BitVec 32 := Scalar.addi c0_i32_1506 v1211
  v1212.toNat
def k0_dev43 (d0 : Dev nD) : Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1514 : BitVec 32 := 1#32
  let v1213 : BitVec 32 := Scalar.muli v7 c1_i32_1514
  let v1214 : BitVec 32 := Scalar.addi c0_i32_1515 v1213
  v1214.toNat
def k0_dev44 (d0 : Dev nD) : Nat :=
  let c0_i32_1527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1526 : BitVec 32 := 1#32
  let v1223 : BitVec 32 := Scalar.muli v7 c1_i32_1526
  let v1224 : BitVec 32 := Scalar.addi c0_i32_1527 v1223
  v1224.toNat
def k0_dev45 (d0 : Dev nD) : Nat :=
  let c0_i32_1539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1538 : BitVec 32 := 1#32
  let v1233 : BitVec 32 := Scalar.muli v7 c1_i32_1538
  let v1234 : BitVec 32 := Scalar.addi c0_i32_1539 v1233
  v1234.toNat
def k0_dev46 (d0 : Dev nD) : Nat :=
  let c0_i32_1551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1550 : BitVec 32 := 1#32
  let v1243 : BitVec 32 := Scalar.muli v7 c1_i32_1550
  let v1244 : BitVec 32 := Scalar.addi c0_i32_1551 v1243
  v1244.toNat
def k0_dev47 (d0 : Dev nD) : Nat :=
  let c0_i32_1563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1562 : BitVec 32 := 1#32
  let v1253 : BitVec 32 := Scalar.muli v5 c1_i32_1562
  let v1254 : BitVec 32 := Scalar.addi c0_i32_1563 v1253
  v1254.toNat
def k0_dev48 (d0 : Dev nD) : Nat :=
  let c0_i32_1575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1574 : BitVec 32 := 1#32
  let v1263 : BitVec 32 := Scalar.muli v5 c1_i32_1574
  let v1264 : BitVec 32 := Scalar.addi c0_i32_1575 v1263
  v1264.toNat
def k0_dev49 (d0 : Dev nD) : Nat :=
  let c0_i32_1587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1586 : BitVec 32 := 1#32
  let v1273 : BitVec 32 := Scalar.muli v5 c1_i32_1586
  let v1274 : BitVec 32 := Scalar.addi c0_i32_1587 v1273
  v1274.toNat
def k0_dev50 (d0 : Dev nD) : Nat :=
  let c0_i32_1599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1598 : BitVec 32 := 1#32
  let v1283 : BitVec 32 := Scalar.muli v5 c1_i32_1598
  let v1284 : BitVec 32 := Scalar.addi c0_i32_1599 v1283
  v1284.toNat
def k0_dev51 (d0 : Dev nD) : Nat :=
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1874 : BitVec 32 := 1#32
  let v1502 : BitVec 32 := Scalar.muli v5 c1_i32_1874
  let v1503 : BitVec 32 := Scalar.addi c0_i32_1875 v1502
  v1503.toNat
def k0_dev52 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1877 : BitVec 32 := 1#32
  let v1504 : BitVec 32 := Scalar.muli v7 c1_i32_1877
  let v1505 : BitVec 32 := Scalar.addi c0_i32_1878 v1504
  v1505.toNat
def k0_dev53 (d0 : Dev nD) : Nat :=
  let c0_i32_1887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1886 : BitVec 32 := 1#32
  let v1506 : BitVec 32 := Scalar.muli v7 c1_i32_1886
  let v1507 : BitVec 32 := Scalar.addi c0_i32_1887 v1506
  v1507.toNat
def k0_dev54 (d0 : Dev nD) : Nat :=
  let c0_i32_1899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1898 : BitVec 32 := 1#32
  let v1516 : BitVec 32 := Scalar.muli v7 c1_i32_1898
  let v1517 : BitVec 32 := Scalar.addi c0_i32_1899 v1516
  v1517.toNat
def k0_dev55 (d0 : Dev nD) : Nat :=
  let c0_i32_1911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1910 : BitVec 32 := 1#32
  let v1526 : BitVec 32 := Scalar.muli v7 c1_i32_1910
  let v1527 : BitVec 32 := Scalar.addi c0_i32_1911 v1526
  v1527.toNat
def k0_dev56 (d0 : Dev nD) : Nat :=
  let c0_i32_1923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1922 : BitVec 32 := 1#32
  let v1536 : BitVec 32 := Scalar.muli v7 c1_i32_1922
  let v1537 : BitVec 32 := Scalar.addi c0_i32_1923 v1536
  v1537.toNat
def k0_dev57 (d0 : Dev nD) : Nat :=
  let c0_i32_1935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1934 : BitVec 32 := 1#32
  let v1546 : BitVec 32 := Scalar.muli v5 c1_i32_1934
  let v1547 : BitVec 32 := Scalar.addi c0_i32_1935 v1546
  v1547.toNat
def k0_dev58 (d0 : Dev nD) : Nat :=
  let c0_i32_1947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1946 : BitVec 32 := 1#32
  let v1556 : BitVec 32 := Scalar.muli v5 c1_i32_1946
  let v1557 : BitVec 32 := Scalar.addi c0_i32_1947 v1556
  v1557.toNat
def k0_dev59 (d0 : Dev nD) : Nat :=
  let c0_i32_1959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1958 : BitVec 32 := 1#32
  let v1566 : BitVec 32 := Scalar.muli v5 c1_i32_1958
  let v1567 : BitVec 32 := Scalar.addi c0_i32_1959 v1566
  v1567.toNat
def k0_dev60 (d0 : Dev nD) : Nat :=
  let c0_i32_1971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1970 : BitVec 32 := 1#32
  let v1576 : BitVec 32 := Scalar.muli v5 c1_i32_1970
  let v1577 : BitVec 32 := Scalar.addi c0_i32_1971 v1576
  v1577.toNat
def k0_dev61 (d0 : Dev nD) : Nat :=
  let c0_i32_2247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2246 : BitVec 32 := 1#32
  let v1795 : BitVec 32 := Scalar.muli v5 c1_i32_2246
  let v1796 : BitVec 32 := Scalar.addi c0_i32_2247 v1795
  v1796.toNat
def k0_dev62 (d0 : Dev nD) : Nat :=
  let c0_i32_2250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2249 : BitVec 32 := 1#32
  let v1797 : BitVec 32 := Scalar.muli v7 c1_i32_2249
  let v1798 : BitVec 32 := Scalar.addi c0_i32_2250 v1797
  v1798.toNat
def k0_dev63 (d0 : Dev nD) : Nat :=
  let c0_i32_2259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2258 : BitVec 32 := 1#32
  let v1799 : BitVec 32 := Scalar.muli v7 c1_i32_2258
  let v1800 : BitVec 32 := Scalar.addi c0_i32_2259 v1799
  v1800.toNat
def k0_dev64 (d0 : Dev nD) : Nat :=
  let c0_i32_2271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2270 : BitVec 32 := 1#32
  let v1809 : BitVec 32 := Scalar.muli v7 c1_i32_2270
  let v1810 : BitVec 32 := Scalar.addi c0_i32_2271 v1809
  v1810.toNat
def k0_dev65 (d0 : Dev nD) : Nat :=
  let c0_i32_2283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2282 : BitVec 32 := 1#32
  let v1819 : BitVec 32 := Scalar.muli v7 c1_i32_2282
  let v1820 : BitVec 32 := Scalar.addi c0_i32_2283 v1819
  v1820.toNat
def k0_dev66 (d0 : Dev nD) : Nat :=
  let c0_i32_2295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2294 : BitVec 32 := 1#32
  let v1829 : BitVec 32 := Scalar.muli v7 c1_i32_2294
  let v1830 : BitVec 32 := Scalar.addi c0_i32_2295 v1829
  v1830.toNat
def k0_dev67 (d0 : Dev nD) : Nat :=
  let c0_i32_2307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2306 : BitVec 32 := 1#32
  let v1839 : BitVec 32 := Scalar.muli v5 c1_i32_2306
  let v1840 : BitVec 32 := Scalar.addi c0_i32_2307 v1839
  v1840.toNat
def k0_dev68 (d0 : Dev nD) : Nat :=
  let c0_i32_2319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2318 : BitVec 32 := 1#32
  let v1849 : BitVec 32 := Scalar.muli v5 c1_i32_2318
  let v1850 : BitVec 32 := Scalar.addi c0_i32_2319 v1849
  v1850.toNat
def k0_dev69 (d0 : Dev nD) : Nat :=
  let c0_i32_2331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2330 : BitVec 32 := 1#32
  let v1859 : BitVec 32 := Scalar.muli v5 c1_i32_2330
  let v1860 : BitVec 32 := Scalar.addi c0_i32_2331 v1859
  v1860.toNat
def k0_dev70 (d0 : Dev nD) : Nat :=
  let c0_i32_2343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2342 : BitVec 32 := 1#32
  let v1869 : BitVec 32 := Scalar.muli v5 c1_i32_2342
  let v1870 : BitVec 32 := Scalar.addi c0_i32_2343 v1869
  v1870.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.KernelIdeal.Hops.lean ====
/-
# The kernel's body as seven hops

The printed body is one long sequence of memory operations. Here it is written as the seven hops it consists of,
each operation a function of the hop, of the ring it belongs to and of the column block it moves, and the two are
shown to be the same program.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-! ## The buffers and the semaphores -/

/-- The staged blocks of `x` and of `w_mat`, the two scales, and the result. -/
abbrev xM : Memref sig .tc .vmem S4096x512 .i8 := Memref.whole cc0_stg0_0
abbrev wM : Memref sig .tc .vmem S512x8192 .i8 := Memref.whole cc0_stg1_0
abbrev aM : Memref sig .tc .smem S1 .f32 := Memref.whole cc0_stg2_0
abbrev bM : Memref sig .tc .smem S1 .f32 := Memref.whole cc0_stg3_0
abbrev oM : Memref sig .tc .vmem S512x8192 .f32 := Memref.whole cc0_stg4_0

/-- The two-slot buffer of a ring: `false` is the ring that sends to the right, `true` the one that sends to the left. -/
def cRef (d : Bool) : Ref sig .tc := if d then cc0_scratch1 else cc0_scratch0
def cM : Bool → Memref sig .tc .vmem S2x512x4096 .i32
  | false => Memref.whole cc0_scratch0
  | true => Memref.whole cc0_scratch1
/-- The send semaphores of a ring, by slot and column block, and its receive semaphores, by hop and column block. -/
def sSems : Bool → DmaSems sig S2x4
  | false => cc0_scratch2
  | true => cc0_scratch3
def rSems : Bool → DmaSems sig S7x4
  | false => cc0_scratch4
  | true => cc0_scratch5
/-- The barrier semaphore. -/
abbrev barS : Sem sig := (SemArray.scalar (sig.barrier 0 rfl) : Sems sig S_).sem

/-- The slot that hop `s` sends from, and the one that it sends into. -/
def slotA (s : Fin 7) : Fin 2 := ⟨s.val % 2, Nat.mod_lt _ (by decide)⟩
def slotB (s : Fin 7) : Fin 2 := ⟨(s.val + 1) % 2, Nat.mod_lt _ (by decide)⟩

theorem inb_sub (b : Fin 2) (t : Fin 4) : ∀ a, (![b.val, 0, 1024 * t.val] : Fin 3 → Nat) a + S1x512x1024.size a ≤ S2x512x4096.size a := by
  revert b t; decide
theorem inb_ss (b : Fin 2) (t : Fin 4) : ∀ a, (![b.val, t.val] : Fin 2 → Nat) a + S1x1.size a ≤ S2x4.size a := by
  revert b t; decide
theorem inb_rs (s : Fin 7) (t : Fin 4) : ∀ a, (![s.val, t.val] : Fin 2 → Nat) a + S1x1.size a ≤ S7x4.size a := by
  revert s t; decide
/-- The first column of a ring's half of the result. -/
def half (d : Bool) : Nat := if d then 4096 else 0
theorem inb_out (d : Bool) (t : Fin 4) : ∀ a, (![0, half d + 1024 * t.val] : Fin 2 → Nat) a + S512x1024.size a ≤ S512x8192.size a := by
  revert d t; decide
theorem inb_half (d : Bool) : ∀ a, (![0, half d] : Fin 2 → Nat) a + S512x4096.size a ≤ S512x8192.size a := by
  revert d; decide

/-- Column block `t` of slot `b`; a whole slot `0`; column block `t` of a ring's half of the result; that half. -/
abbrev rSub (b : Fin 2) (t : Fin 4) : Rect S2x512x4096 := Rect.unit (s := S2x512x4096) ![b.val, 0, 1024 * t.val] S1x512x1024.size (inb_sub b t)
abbrev rSeed : Rect S2x512x4096 := Rect.unit (s := S2x512x4096) ![0, 0, 0] S1x512x4096.size inb_S2x512x4096_S1x512x4096_0_0_0
abbrev rOut (d : Bool) (t : Fin 4) : Rect S512x8192 := Rect.unit (s := S512x8192) ![0, half d + 1024 * t.val] S512x1024.size (inb_out d t)
abbrev rHalf (d : Bool) : Rect S512x8192 := Rect.unit (s := S512x8192) ![0, half d] S512x4096.size (inb_half d)

/-- Column block `t` of slot `b` of a ring's buffer, as the copies name it. -/
def sub (d : Bool) (b : Fin 2) (t : Fin 4) : Memref sig .tc .vmem S512x1024 .i32 :=
  ((cM d).slice (rSub b t) (fun _ => rfl)).squeeze S512x1024 squeezes_S1x512x1024_S512x1024
def ssem (d : Bool) (b : Fin 2) (t : Fin 4) : DmaSem sig :=
  (((sSems d).slice (Rect.unit (s := S2x4) ![b.val, t.val] S1x1.size (inb_ss b t))).squeeze S_ squeezes_S1x1_S_).sem
def rsem (d : Bool) (s : Fin 7) (t : Fin 4) : DmaSem sig :=
  (((rSems d).slice (Rect.unit (s := S7x4) ![s.val, t.val] S1x1.size (inb_rs s t))).squeeze S_ squeezes_S1x1_S_).sem

theorem sub_word (d : Bool) (b : Fin 2) (t : Fin 4) : (sub d b t).view.WordExact := (View.wordExact_bits rfl).reshape _ _
theorem sub_scratch (n : Dev nD) (d : Bool) (b : Fin 2) (t : Fin 4) :
    (sub d b t : Memref sig (Dev.tc n : Thread nD τ).2.kind .vmem S512x1024 .i32).view.ref.isScScratch = false := by cases d <;> rfl

/-- The neighbour a ring sends to, as the kernel computes it: the right one for `false`, the left one for `true`. -/
def peer (c : Dev nD) : Bool → Dev nD
  | false => ⟨k0_dev2 c, k0_dev2_lt c⟩
  | true => ⟨k0_dev1 c, k0_dev1_lt c⟩

/-- Where the row block of `x` begins that a ring multiplies in hop `s`, and the one it multiplies before the hops. -/
def xOff (c : Dev nD) (s : Fin 7) : Bool → Fin 2 → Nat
  | false => k0_off3 c (BitVec.ofNat 32 s.val)
  | true => k0_off4 c (BitVec.ofNat 32 s.val)
def seedOff (c : Dev nD) : Bool → Fin 2 → Nat
  | false => k0_off1 c
  | true => k0_off2 c
theorem inb_x (c : Dev nD) (s : Fin 7) (d : Bool) : ∀ a, xOff c s d a + S512x512.size a ≤ S4096x512.size a := by
  cases d
  · exact k0_off3_inb c s
  · exact k0_off4_inb c s
theorem inb_seed (c : Dev nD) (d : Bool) : ∀ a, seedOff c d a + S512x512.size a ≤ S4096x512.size a := by
  cases d
  · exact k0_off1_inb c
  · exact k0_off2_inb c
abbrev rX (c : Dev nD) (s : Fin 7) (d : Bool) : Rect S4096x512 := Rect.unit (s := S4096x512) (xOff c s d) S512x512.size (inb_x c s d)
abbrev rXSeed (c : Dev nD) (d : Bool) : Rect S4096x512 := Rect.unit (s := S4096x512) (seedOff c d) S512x512.size (inb_seed c d)

/-! ## The operations -/

/-- A body, and what it goes on with. -/
abbrev Body (F : FTy → Type) : Type 1 := Prog (TpuEff nD τ sig (Elt F) Λ₀ .tc) PUnit

/-- The barrier with both neighbours. -/
def barrier (c : Dev nD) (k : Body F) : Body F :=
  .op (.semSignal (peer c true, .tc) barS (BitVec.toInt 1#32)) fun _ =>
  .op (.semSignal (peer c false, .tc) barS (BitVec.toInt 1#32)) fun _ =>
  .op (.semWait barS (BitVec.toInt 2#32)) fun _ => k

/-- The copy of column block `t` in hop `s` of ring `d`. -/
def send (c : Dev nD) (s : Fin 7) (d : Bool) (t : Fin 4) (k : Body F) : Body F :=
  .op (.enqueueDma (sub d (slotA s) t)
    (.remote (Dev.tc (peer c d)) (sub d (slotB s) t) (.dma (ssem d (slotA s) t)) (sub_scratch (peer c d) d (slotB s) t)) (.dma (rsem d s t))
    (sub_word d (slotA s) t) (sub_word d (slotB s) t) ⟨⟨rfl, Or.inl rfl⟩, trivial⟩) fun _ => k

/-- The partial product that a ring starts from, stored in its slot `0`. -/
def seed (c : Dev nD) (d : Bool) (k : Body F) : Body F :=
  .op (.load xM (rXSeed c d).toLoadRect (View.loadsAt_vmem h_S512x512)) fun x =>
  .op (.load wM (rHalf d).toLoadRect (View.loadsAt_vmem h_S512x4096)) fun w =>
  .op (.load (cM d) rSeed.toLoadRect (View.loadsAt_vmem h_S1x512x4096)) fun _ =>
  .op (.store (cM d) rSeed (k0_pay3 x w) Finset.univ (View.stores_vmem_bits_univ h_S1x512x4096 rfl) (.inl rfl)) fun _ => k

/-- The partial product of hop `s`, stored in a ring's half of the result. -/
def part (c : Dev nD) (s : Fin 7) (d : Bool) (k : Body F) : Body F :=
  .op (.load xM (rX c s d).toLoadRect (View.loadsAt_vmem h_S512x512)) fun x =>
  .op (.load wM (rHalf d).toLoadRect (View.loadsAt_vmem h_S512x4096)) fun w =>
  .op (.load oM (rHalf d).toLoadRect (View.loadsAt_vmem h_S512x4096)) fun _ =>
  .op (.store oM (rHalf d) (k0_pay6 x w) Finset.univ (View.stores_vmem_bits_univ h_S512x4096 rfl) (.inl rfl)) fun _ => k

/-- The end of the copy of column block `t` in hop `s`: both its waits, and what arrived added to the partial product. -/
def finish (s : Fin 7) (d : Bool) (t : Fin 4) (k : IVec S512x1024 32 → Body F) : Body F :=
  .op (.waitDma2 (ssem d (slotA s) t) (sub d (slotB s) t) (sub d (slotA s) t) (sub_word d (slotB s) t) (sub_word d (slotA s) t)) fun _ =>
  .op (.waitDma2 (rsem d s t) (sub d (slotA s) t) (sub d (slotB s) t) (sub_word d (slotA s) t) (sub_word d (slotB s) t)) fun _ =>
  .op (.load (cM d) (rSub (slotB s) t).toLoadRect (View.loadsAt_vmem h_S1x512x1024)) fun v =>
  .op (.load oM (rOut d t).toLoadRect (View.loadsAt_vmem h_S512x1024)) fun o =>
  .op (.load (cM d) (rSub (slotB s) t).toLoadRect (View.loadsAt_vmem h_S1x512x1024)) fun _ =>
  .op (.store (cM d) (rSub (slotB s) t) (k0_pay15 (k0_pay14 v o)) Finset.univ (View.stores_vmem_bits_univ h_S1x512x1024 rfl) (.inl rfl)) fun _ =>
  k (k0_pay14 v o)

/-- The last hop's addition: the finished sum scaled and put through the activation, stored in the result. -/
def emit (q : F .f32) (d : Bool) (t : Fin 4) (acc : IVec S512x1024 32) (k : Body F) : Body F :=
  .op (.load oM (rOut d t).toLoadRect (View.loadsAt_vmem h_S512x1024)) fun _ =>
  .op (.store oM (rOut d t) (k0_pay2 q acc) Finset.univ (View.stores_vmem_bits_univ h_S512x1024 rfl) (.inl rfl)) fun _ => k

/-- The product of the two scales, read before the hops. -/
def scale (k : F .f32 → Body F) : Body F :=
  .op (.load aM (Rect.unit (s := S1) ![0] S1.size inb_S1_S1_0).toLoadRect (View.loadsAt_rect (View.loads_smem_one rfl numel1_S1))) fun a =>
  .op (.load bM (Rect.unit (s := S1) ![0] S1.size inb_S1_S1_0).toLoadRect (View.loadsAt_rect (View.loads_smem_one rfl numel1_S1))) fun b =>
  k (k0_pay5 (a (Shape.Idx.first (numel1_S1.symm ▸ Nat.one_pos))) (b (Shape.Idx.first (numel1_S1.symm ▸ Nat.one_pos))))

/-- The eight copies of a hop, and its two partial products. -/
def begin_ (c : Dev nD) (s : Fin 7) (k : Body F) : Body F :=
  send c s false 0 <| send c s false 1 <| send c s false 2 <| send c s false 3 <|
  send c s true 0 <| send c s true 1 <| send c s true 2 <| send c s true 3 <|
  part c s false <| part c s true k

/-- The additions of a hop that is not the last. -/
def ends (s : Fin 7) (k : Body F) : Body F :=
  finish s false 0 fun _ => finish s true 0 fun _ => finish s false 1 fun _ => finish s true 1 fun _ =>
  finish s false 2 fun _ => finish s true 2 fun _ => finish s false 3 fun _ => finish s true 3 fun _ => k

/-- The additions of the last hop. -/
def lasts (q : F .f32) (k : Body F) : Body F :=
  finish 6 false 0 fun a => emit q false 0 a <| finish 6 true 0 fun a => emit q true 0 a <|
  finish 6 false 1 fun a => emit q false 1 a <| finish 6 true 1 fun a => emit q true 1 a <|
  finish 6 false 2 fun a => emit q false 2 a <| finish 6 true 2 fun a => emit q true 2 a <|
  finish 6 false 3 fun a => emit q false 3 a <| finish 6 true 3 fun a => emit q true 3 a k

/-- A hop that is not the last. -/
def hop (c : Dev nD) (s : Fin 7) (k : Body F) : Body F := begin_ c s <| ends s k

/-- The whole body. -/
def body : Body F :=
  .op .deviceId fun c => barrier c <| seed c false <| seed c true <| scale fun q =>
  hop c 0 <| barrier c <| hop c 1 <| barrier c <| hop c 2 <| barrier c <| hop c 3 <| barrier c <| hop c 4 <| barrier c <| hop c 5 <|
  barrier c <| begin_ c 6 <| lasts q <| .ret ⟨⟩

set_option maxRecDepth 65536 in
set_option maxHeartbeats 4000000 in
/-- The printed body is this sequence of hops. -/
theorem cc0_body_eq :
    cc0_body (F := F) xM (Memref.isWhole_whole _) wM (Memref.isWhole_whole _) aM (Memref.isWhole_whole _) bM (Memref.isWhole_whole _)
      oM (Memref.isWhole_whole _) (Memref.whole cc0_scratch0) (Memref.isWhole_whole _) (Memref.whole cc0_scratch1) (Memref.isWhole_whole _)
      cc0_scratch2 cc0_scratch3 cc0_scratch4 cc0_scratch5 = body := by
  rfl

end Cert.KernelIdealProof

end
-- ==== Proof.KernelIdeal.Common.lean ====
/-
# The protocol between the devices

A device has one barrier cell, two rings of send cells and two rings of receive cells. Hop `s` begins with a barrier, at
which a device hands each neighbour the slot that the neighbour's copies of the hop go into. A receive cell is used once,
and what lands in it is the sum that the neighbour had reached. This module names the cells, the sums, what each
signal and each copy hands over, and what a device owes from a hop on.
-/
module

public import proofs.«01_k».proof.Proof.KernelIdeal.Hops
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.BigSepL
public import Idealize.ShloMosaic.Lib.Pipeline.SiteBlocks
public import Idealize.ShloMosaic.Lib.Rounds
public import Idealize.ShloMosaic.Lib.Memref
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The ring and the cells -/

/-- Each neighbour's opposite neighbour is the device itself. -/
theorem peer_peer (c : Dev nD) (d : Bool) : peer (peer c d) (!d) = c := by revert c d; decide
theorem peer_peer' (c : Dev nD) (d : Bool) : peer (peer c (!d)) d = c := by revert c d; decide

/-- A DMA cell: a send cell by ring, slot and column block, or a receive cell by ring, hop and column block. -/
abbrev Own : Type := (Bool × Fin 2 × Fin 4) ⊕ (Bool × Fin 7 × Fin 4)
/-- A cell of the protocol: the barrier, or a DMA cell. -/
abbrev Ki : Type := Unit ⊕ Own

def osem : Own → SemLoc sig
  | .inl (d, b, t) => .dma (ssem d b t)
  | .inr (d, s, t) => .dma (rsem d s t)
def csem : Ki → SemLoc sig
  | .inl _ => .reg barS
  | .inr o => osem o

/-- The number of a DMA cell. -/
def num : Own → ℕ
  | .inl (d, b, t) => 5 + 8 * d.toNat + 4 * b.val + t.val
  | .inr (d, s, t) => 21 + 28 * d.toNat + 4 * s.val + t.val

theorem ssem_val (d : Bool) (b : Fin 2) (t : Fin 4) : (ssem d b t).val = num (.inl (d, b, t)) := by revert d b t; decide
theorem rsem_val (d : Bool) (s : Fin 7) (t : Fin 4) : (rsem d s t).val = num (.inr (d, s, t)) := by revert d s t; decide

theorem num_injective : Function.Injective num := by
  rintro (⟨d, b, t⟩ | ⟨d, s, t⟩) (⟨d', b', t'⟩ | ⟨d', s', t'⟩) h
  · have h2 : d = d' := by cases d <;> cases d' <;> simp only [num, Bool.toNat_true, Bool.toNat_false] at h <;> first | rfl | omega
    subst h2
    simp only [num] at h
    rw [show b = b' from Fin.ext (by omega), show t = t' from Fin.ext (by omega)]
  · cases d <;> cases d' <;> simp only [num, Bool.toNat_true, Bool.toNat_false] at h <;> omega
  · cases d <;> cases d' <;> simp only [num, Bool.toNat_true, Bool.toNat_false] at h <;> omega
  · have h2 : d = d' := by cases d <;> cases d' <;> simp only [num, Bool.toNat_true, Bool.toNat_false] at h <;> first | rfl | omega
    subst h2
    simp only [num] at h
    rw [show s = s' from Fin.ext (by omega), show t = t' from Fin.ext (by omega)]

theorem osem_dma (o : Own) : ∃ q : DmaSem sig, osem o = .dma q ∧ q.val = num o := by
  rcases o with ⟨d, b, t⟩ | ⟨d, s, t⟩
  · exact ⟨_, rfl, ssem_val d b t⟩
  · exact ⟨_, rfl, rsem_val d s t⟩

theorem osem_injective : Function.Injective osem := fun o o' h => by
  obtain ⟨q, hq, hn⟩ := osem_dma o
  obtain ⟨q', hq', hn'⟩ := osem_dma o'
  rw [hq, hq'] at h
  have : q = q' := by cases h; rfl
  exact num_injective (by rw [← hn, ← hn', this])

theorem csem_injective : Function.Injective csem := by
  rintro (⟨⟩ | o) (⟨⟩ | o') h
  · rfl
  · obtain ⟨q, hq, -⟩ := osem_dma o'; rw [csem, csem, hq] at h; cases h
  · obtain ⟨q, hq, -⟩ := osem_dma o; rw [csem, csem, hq] at h; cases h
  · exact congrArg _ (osem_injective h)

/-- Which cell of the protocol a semaphore is, if any. -/
def decode (l : SemLoc sig) : Option Ki := open Classical in if h : ∃ k, csem k = l then some h.choose else none
theorem decode_csem (k : Ki) : decode (csem k) = some k := by
  have h : ∃ k', csem k' = csem k := ⟨k, rfl⟩
  unfold decode; rw [dif_pos h]; exact congrArg some (csem_injective h.choose_spec)

abbrev cell (c : Dev nD) (k : Ki) : GSem nD τ sig := ((c : Thread nD τ), csem k)
abbrev barK : Ki := .inl ()
abbrev sendK (d : Bool) (b : Fin 2) (t : Fin 4) : Ki := .inr (.inl (d, b, t))
abbrev recvK (d : Bool) (s : Fin 7) (t : Fin 4) : Ki := .inr (.inr (d, s, t))

/-- The units that a copy of a column block pays. -/
abbrev N : ℕ := (sub false 0 0).view.dmaCredit
theorem N_pos : 0 < N := View.dmaCredit_pos _ (by decide)
theorem credit_sub (d : Bool) (b : Fin 2) (t : Fin 4) : (sub d b t).view.dmaCredit = N := by cases d <;> rfl

/-! ## The sums -/

/-- The slot used by the hops of `n`'s parity. -/
def slot (n : ℕ) : Fin 2 := ⟨n % 2, Nat.mod_lt _ (by decide)⟩
theorem slot_add_two (n : ℕ) : slot (n + 2) = slot n := Fin.ext (Nat.add_mod_right n 2)

theorem inb_col (t : Fin 4) : ∀ a, (![0, 1024 * t.val] : Fin 2 → Nat) a + S512x1024.size a ≤ S512x4096.size a := by
  revert t; decide
theorem inb_scol (t : Fin 4) : ∀ a, (![0, 0, 1024 * t.val] : Fin 3 → Nat) a + S1x512x1024.size a ≤ S1x512x4096.size a := by
  revert t; decide
/-- Column block `t` of a half, and of a whole slot. -/
abbrev rCol (t : Fin 4) : Rect S512x4096 := Rect.unit (s := S512x4096) ![0, 1024 * t.val] S512x1024.size (inb_col t)
abbrev rSeedCol (t : Fin 4) : Rect S1x512x4096 := Rect.unit (s := S1x512x4096) ![0, 0, 1024 * t.val] S1x512x1024.size (inb_scol t)

/-- Column block `t` of a half. -/
def cols {α : Type} (t : Fin 4) (P : S512x4096.Idx → α) : S512x1024.Idx → α := fun i => P ((rCol t).emb i)

-- what every device's `x` and `w_mat` hold
variable (xs : Dev nD → S4096x512.Idx → Elt F .i8) (ws : Dev nD → S512x8192.Idx → Elt F .i8)

/-- The partial product of hop `s` in ring `d` on device `c`. -/
def prodAt (d : Bool) (s : Fin 7) (c : Dev nD) : S512x4096.Idx → Elt F .f32 :=
  k0_pay6 (xM.view.readAt (Elt F) (rX c s d).toLoadRect (xs c)) (wM.view.readAt (Elt F) (rHalf d).toLoadRect (ws c))
/-- The partial product that ring `d` starts from on device `c`, as it is stored. -/
def seedAt (d : Bool) (c : Dev nD) : S1x512x4096.Idx → Elt F .i32 :=
  k0_pay3 (xM.view.readAt (Elt F) (rXSeed c d).toLoadRect (xs c)) (wM.view.readAt (Elt F) (rHalf d).toLoadRect (ws c))
/-- Its column block `t`. -/
def seedCol (d : Bool) (c : Dev nD) (t : Fin 4) : S512x1024.Idx → Elt F .i32 :=
  shapeCast S512x1024 (fun i : S1x512x1024.Idx => seedAt xs ws d c ((rSeedCol t).emb i)) shapeCasts_S1x512x1024_S512x1024

/-- The sum in ring `d` on device `c` before hop `n`, column block `t`. -/
def val (d : Bool) : ℕ → Dev nD → Fin 4 → S512x1024.Idx → Elt F .i32
  | 0, c, t => seedCol xs ws d c t
  | n + 1, c, t => k0_pay14 (k0_pay15 (val d n (peer c (!d)) t)) (cols t (prodAt xs ws d (Fin.ofNat 7 n) c))

/-! ## The pieces of the two-slot buffers -/

/-- Column block `t` of slot `b` of device `c`'s buffer of ring `d`, holding `v`; and holding anything. -/
def has (c : Dev nD) (d : Bool) (b : Fin 2) (t : Fin 4) (v : S512x1024.Idx → Elt F .i32) : sProp 𝕄 :=
  owns (c : Thread nD τ) (sub d b t) fullShare v
def free (c : Dev nD) (d : Bool) (b : Fin 2) (t : Fin 4) : sProp 𝕄 := iprop(∃ v, has (F := F) c d b t v)

instance has_storable (c : Dev nD) (d b t v) : BI.Storable (upEmb : UEmb _ 𝕄) (has (F := F) c d b t v) := by unfold has; infer_instance
instance free_storable (c : Dev nD) (d b t) : BI.Storable (upEmb : UEmb _ 𝕄) (free (F := F) c d b t) := by unfold free; infer_instance

/-! ## The schedule -/

/-- What the neighbour that ring `d` sends to hands over in barrier `k`: its slot that the copies of hop `k` go into. -/
def barPay (c : Dev nD) (k : ℕ) (d : Bool) : sProp 𝕄 :=
  iprop(free (F := F) (peer c d) d (slot (k + 1)) 0 ∗ free (F := F) (peer c d) d (slot (k + 1)) 1
    ∗ free (F := F) (peer c d) d (slot (k + 1)) 2 ∗ free (F := F) (peer c d) d (slot (k + 1)) 3)
/-- What a copy of hop `s` hands over: the neighbour's sum, and that the neighbour has passed that hop's barrier. -/
def recvPay (c : Dev nD) (d : Bool) (s : Fin 7) (t : Fin 4) : sProp 𝕄 :=
  iprop(has c d (slot (s.val + 1)) t (val xs ws d s.val (peer c (!d)) t) ∗ reached ER (cell (peer c (!d)) barK) (s.val + 1))

instance barPay_storable (c : Dev nD) (k d) : BI.Storable (upEmb : UEmb _ 𝕄) (barPay (F := F) c k d) := by unfold barPay; infer_instance
instance recvPay_storable (c : Dev nD) (d s t) : BI.Storable (upEmb : UEmb _ 𝕄) (recvPay xs ws c d s t) := by unfold recvPay; infer_instance

/-- The number of rounds of a cell. -/
def rounds : Ki → ℕ
  | .inl _ => 7
  | .inr (.inl (_, b, _)) => if b = 0 then 4 else 3
  | .inr (.inr _) => 1
/-- The duties of each of its rounds: a barrier has one per neighbour. -/
def dutiesOf : Ki → Finset Bool
  | .inl _ => Finset.univ
  | .inr _ => {false}
def payOf (c : Dev nD) (r : ℕ) (d : Bool) : Ki → sProp 𝕄
  | .inl _ => barPay c r d
  | .inr (.inl (d', b, t)) => free c d' b t
  | .inr (.inr (d', s, t)) => recvPay xs ws c d' s t

instance payOf_storable (c : Dev nD) (r d k) : BI.Storable (upEmb : UEmb _ 𝕄) (payOf xs ws c r d k) := by
  rcases k with _ | ⟨_, _, _⟩ | ⟨_, _, _⟩ <;> unfold payOf <;> infer_instance

def sched : Rounds.Schedule (GSem nD τ sig) Bool 𝕄 where
  duties g r := match decode g.2 with
    | some k => if g.1.2 = .tc ∧ r < rounds k then dutiesOf k else ∅
    | none => ∅
  unitless _ := False
  amount g _ _ := if decode g.2 = some barK then 1 else N
  payload g r d := match decode g.2 with
    | some k => payOf xs ws g.1.1 r d k
    | none => iprop(emp)
  amount_pos g _ _ _ := by
    by_cases h : decode g.2 = some barK
    · rw [if_pos h]; exact Nat.one_pos
    · rw [if_neg h]; exact N_pos

instance sched_storable (g : GSem nD τ sig) (r : ℕ) (d : Bool) : BI.Storable (upEmb : UEmb _ 𝕄) ((sched xs ws).payload g r d) := by
  show BI.Storable upEmb (match decode g.2 with | some k => payOf xs ws g.1.1 r d k | none => iprop(emp))
  split <;> infer_instance

theorem duties_cell (c : Dev nD) (k : Ki) (r : ℕ) (h : r < rounds k) : (sched xs ws).duties (cell c k) r = dutiesOf k := by
  show (match decode (csem k) with | some k => _ | none => _) = _
  rw [decode_csem]; exact if_pos ⟨rfl, h⟩
theorem duties_over (c : Dev nD) (k : Ki) (r : ℕ) (h : rounds k ≤ r) : (sched xs ws).duties (cell c k) r = ∅ := by
  show (match decode (csem k) with | some k => _ | none => _) = _
  rw [decode_csem]; exact if_neg fun h' => Nat.not_lt.mpr h h'.2
theorem amount_bar (c : Dev nD) (r : ℕ) (d : Bool) : (sched xs ws).amount (cell c barK) r d = 1 := if_pos (decode_csem barK)
theorem amount_own (c : Dev nD) (o : Own) (r : ℕ) (d : Bool) : (sched xs ws).amount (cell c (.inr o)) r d = N :=
  if_neg fun h => by
    rw [decode_csem (.inr o)] at h
    cases Option.some.inj h
theorem payload_cell (c : Dev nD) (k : Ki) (r : ℕ) (d : Bool) : (sched xs ws).payload (cell c k) r d = payOf xs ws c r d k := by
  show (match decode (csem k) with | some k => _ | none => _) = _
  rw [decode_csem]

theorem expect_bar (c : Dev nD) (r : ℕ) (h : r < 7) : (sched xs ws).expect (cell c barK) r = 2 := by
  unfold Schedule.expect Schedule.amountOf
  rw [duties_cell xs ws c barK r h, Finset.sum_congr rfl fun d _ => amount_bar xs ws c r d]; rfl
theorem expect_own (c : Dev nD) (o : Own) (r : ℕ) (h : r < rounds (.inr o)) : (sched xs ws).expect (cell c (.inr o)) r = N := by
  unfold Schedule.expect Schedule.amountOf
  rw [duties_cell xs ws c (.inr o) r h, Finset.sum_congr rfl fun d _ => amount_own xs ws c o r d]; exact Finset.sum_singleton _ _

/-- Everything that a round of the barrier hands over, and that a round of a DMA cell does. -/
theorem rest_bar (c : Dev nD) (r : ℕ) (h : r < 7) :
    bigSep ((sched xs ws).duties (cell c barK) r \ ∅) (fun d => (sched xs ws).payload (cell c barK) r d)
      = iprop(barPay (F := F) c r false ∗ barPay (F := F) c r true) := by
  rw [Finset.sdiff_empty, duties_cell xs ws c barK r h, show dutiesOf barK = Finset.univ from rfl,
    bigSep_univ_eq_bigSepL [false, true] (by decide) (by decide), bigSepL_cons_cons, bigSepL_singleton, payload_cell, payload_cell]
  rfl
theorem rest_own (c : Dev nD) (o : Own) (r : ℕ) (h : r < rounds (.inr o)) :
    bigSep ((sched xs ws).duties (cell c (.inr o)) r \ ∅) (fun d => (sched xs ws).payload (cell c (.inr o)) r d)
      = payOf xs ws c r false (.inr o) := by
  rw [Finset.sdiff_empty, duties_cell xs ws c (.inr o) r h, show dutiesOf (.inr o) = {false} from rfl, bigSep_singleton, payload_cell]

/-! ## What a device owes -/

/-- A payment to a neighbour: which one, on which of its cells, at which index, how many units. -/
abbrev Due : Type := Bool × Ki × ℕ × ℕ

def owe (c : Dev nD) : List Due → CellTallies nD τ sig ℕ
  | [] => 0
  | e :: l => owe c l + tallyAt (cell (peer c e.1) e.2.1) e.2.2.1 e.2.2.2

/-- The payments of a hop in the order of the program. -/
def sends (s : Fin 7) : List Due :=
  [(false, recvK false s 0, 2 * s.val + 2, N), (false, recvK false s 1, 2 * s.val + 2, N),
   (false, recvK false s 2, 2 * s.val + 2, N), (false, recvK false s 3, 2 * s.val + 2, N),
   (true, recvK true s 0, 2 * s.val + 2, N), (true, recvK true s 1, 2 * s.val + 2, N),
   (true, recvK true s 2, 2 * s.val + 2, N), (true, recvK true s 3, 2 * s.val + 2, N)]
def signals (s : Fin 7) : List Due := [(true, barK, 2 * s.val + 1, 1), (false, barK, 2 * s.val + 1, 1)]
/-- Everything to be paid from hop `n` on. -/
def due (n : ℕ) : List Due := ((List.finRange 7).filter (n ≤ ·.val)).flatMap fun s => signals s ++ sends s

theorem due_eq (s : Fin 7) : due s.val = signals s ++ (sends s ++ due (s.val + 1)) := by fin_cases s <;> rfl
theorem due_end : due 7 = [] := rfl

theorem mem_sends {s : Fin 7} {e : Due} (h : e ∈ sends s) : e.2.2.1 = 2 * s.val + 2 := by
  simp only [sends, List.mem_cons, List.not_mem_nil, or_false] at h
  rcases h with rfl | rfl | rfl | rfl | rfl | rfl | rfl | rfl <;> rfl
theorem mem_signals {s : Fin 7} {e : Due} (h : e ∈ signals s) : e.2.2.1 = 2 * s.val + 1 := by
  simp only [signals, List.mem_cons, List.not_mem_nil, or_false] at h
  rcases h with rfl | rfl <;> rfl
theorem mem_due {n : ℕ} {e : Due} (h : e ∈ due n) : 2 * n + 1 ≤ e.2.2.1 ∧ e.2.2.1 < 16 := by
  obtain ⟨s, hs, he⟩ := List.mem_flatMap.mp h
  have h1 : n ≤ s.val := of_decide_eq_true (List.mem_filter.mp hs).2
  have h2 := s.isLt
  rcases List.mem_append.mp he with he | he
  · rw [mem_signals he]; omega
  · rw [mem_sends he]; omega

theorem owe_pos {c : Dev nD} {l : List Due} {g : GSem nD τ sig} {i : ℕ} (h : 0 < owe c l g i) :
    g.1.2 = .tc ∧ ∃ e ∈ l, i = e.2.2.1 := by
  induction l with
  | nil => exact absurd h (Nat.lt_irrefl 0)
  | cons e l ih =>
    have h' : 0 < owe c l g i + tallyAt (cell (peer c e.1) e.2.1) e.2.2.1 e.2.2.2 g i := h
    rcases Nat.eq_zero_or_pos (owe c l g i) with h0 | h0
    · rw [h0, Nat.zero_add] at h'
      obtain ⟨rfl, rfl⟩ := Pipeline.tallyAt_pos h'
      exact ⟨rfl, e, List.mem_cons_self, rfl⟩
    · obtain ⟨h1, e', he', h2⟩ := ih h0
      exact ⟨h1, e', List.mem_cons_of_mem _ he', h2⟩

/-- A wait at an index below everything that is owed. -/
theorem mayWait (c : Dev nD) (sm : SemLoc sig) (i : ℕ) (l : List Due) (hi : i < 16) (h : ∀ e ∈ l, i < e.2.2.1 ∧ e.2.2.1 < 16) :
    (levAts (SiteBlocks.L 16) SiteBlocks.lv : sProp 𝕄) ⊢ MayWait (c : Thread nD τ) sm i (owe c l) :=
  SiteBlocks.mayWait_of hi c sm _ fun g k hk => by
    obtain ⟨h1, e, he, rfl⟩ := owe_pos hk
    exact ⟨SiteBlocks.mem_L' h1 (h e he).2, (h e he).1⟩

/-- The tokens that match the payments of all devices to device `c`. -/
theorem creds (l : List Due) (c : Dev nD) :
    (Pipeline.launchCred (fun d => owe d l) c : sProp 𝕄) ⊢ bigSepL l fun e => cred (tallyAt (cell c e.2.1) e.2.2.1 e.2.2.2) := by
  induction l with
  | nil => exact Entails.of_eq (Pipeline.launchCred_zero c)
  | cons e l ih =>
    rw [bigSepL_cons', show (fun d => owe d (e :: l)) = fun d => owe d l + tallyAt (cell (peer d e.1) e.2.1) e.2.2.1 e.2.2.2 from rfl,
      Pipeline.launchCred_add]
    iintro ⟨Hl, He⟩
    isplitl [He]
    · iapply (Pipeline.launchCred_tallyAt (csem e.2.1) (fun d => peer d e.1) (fun d => peer d (!e.1)) (fun d => peer_peer' d e.1) (fun d => peer_peer d e.1) _ _ c); iexact He
    · iapply ih; iexact Hl

end Cert.KernelIdealProof

end
-- ==== Proof.KernelIdeal.Steps.lean ====
/-
# One operation at a time

What each load, store, signal, wait and copy of the body does to what the device holds.
-/
module

public import proofs.«01_k».proof.Proof.KernelIdeal.Common
public import Idealize.ShloMosaic.Lib.Pipeline.Value
public import Idealize.ShloMosaic.Lib.ViewIndex

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What a body leaves. -/
abbrev Post (F : FTy → Type) [FloatOps F] : Type := PUnit.{1} → sProp (MT nD τ sig ℕ (Elt F) ℕ UU ℕ)
/-- A body run by device `c`. -/
abbrev run (c : Dev nD) (p : Body F) (Q : Post F) : sProp 𝕄 :=
  wp frame (wpE (defs₀ (F := F)) 𝒱₀ (c : Thread nD τ) none) Set.univ p Q

/-! ## A column block of a slot -/

theorem cast_cast_block (v : S1x512x1024.Idx → Elt F .i32) :
    k0_pay15 (shapeCast S512x1024 v shapeCasts_S1x512x1024_S512x1024) = v := shapeCast_shapeCast v _ _
theorem block_cast_cast (v : S512x1024.Idx → Elt F .i32) :
    shapeCast S512x1024 (k0_pay15 v) shapeCasts_S1x512x1024_S512x1024 = v := shapeCast_shapeCast v _ _

theorem read_sub (d : Bool) (b : Fin 2) (t : Fin 4) (f : (sub d b t).view.ty.Contents (Elt F)) :
    (sub d b t).view.read (Elt F) f = shapeCast S512x1024 ((cM d).view.readAt (Elt F) (rSub b t).toLoadRect f) shapeCasts_S1x512x1024_S512x1024 := rfl

/-- What was just stored into a column block. -/
theorem read_sub_write (d : Bool) (b : Fin 2) (t : Fin 4) (f : (cM d).view.ty.Contents (Elt F)) (A : S512x1024.Idx → Elt F .i32) :
    (sub d b t).view.read (Elt F) (((cM d).access (rSub b t)).write (Elt F) f (k0_pay15 A) Finset.univ) = A := by
  have e := View.read_write_univ (v := (cM d).access (rSub b t)) (Val := Elt F) f (k0_pay15 A)
  have e' := read_sub (F := F) d b t (((cM d).access (rSub b t)).write (Elt F) f (k0_pay15 A) Finset.univ)
  rw [View.readAt_rect] at e'
  exact e'.trans ((congrArg (fun v => shapeCast S512x1024 v shapeCasts_S1x512x1024_S512x1024) e).trans (block_cast_cast A))

theorem sub_set (d : Bool) (b : Fin 2) (t : Fin 4) : (sub d b t).view.set = ((cM d).access (rSub b t)).set :=
  View.set_reshape _ _

theorem sub_load (d : Bool) (b : Fin 2) (t : Fin 4) : (cM d).view.setOn (rSub b t).toLoadRect.set ⊆ (sub d b t).view.set := by
  rw [sub_set]; exact (View.set_slice (cM d).view (rSub b t)).symm.subset

variable (c : Dev nD) {Q : Post F}

/-- A column block, as a part of its buffer. -/
theorem has_eq (d : Bool) (b : Fin 2) (t : Fin 4) (v : S512x1024.Idx → Elt F .i32) :
    has c d b t v = iprop(∃ f : (cM d).view.ty.Contents (Elt F), ⌜(sub d b t).view.read (Elt F) f = v⌝
      ∗ ((cM d).view.loc (c : Thread nD τ) ↦[(sub d b t).view.set]{fullShare} f)) := rfl

theorem load_piece {d : Bool} {b : Fin 2} {t : Fin 4} {v : S512x1024.Idx → Elt F .i32} {h} {k : (S1x512x1024.Idx → Elt F .i32) → Body F} :
    has c d b t v ⊢ iprop((has c d b t v -∗ run c (k (k0_pay15 v)) Q)
      -∗ run c (.op (.load (cM d) (rSub b t).toLoadRect h) k) Q) := by
  rw [has_eq]
  iintro ⟨%f, %hf, H⟩ Hk
  iapply (wp_load 𝒱₀ (c : Thread nD τ) none Set.univ (m := cM d) (r := (rSub b t).toLoadRect) (S := (sub d b t).view.set) (f := f) (sub_load d b t)) $$ H
  iintro H
  rw [show (cM d).view.readAt (Elt F) (rSub b t).toLoadRect f = k0_pay15 v from
    (cast_cast_block ((cM d).view.readAt (Elt F) (rSub b t).toLoadRect f)).symm.trans (congrArg k0_pay15 hf)]
  iapply Hk
  iexists f
  isplitr; · ipureintro; exact hf
  iexact H

theorem store_piece {d : Bool} {b : Fin 2} {t : Fin 4} {v A : S512x1024.Idx → Elt F .i32} {hx hm} {k : PUnit → Body F} :
    has c d b t v ⊢ iprop((has c d b t A -∗ run c (k ⟨⟩) Q)
      -∗ run c (.op (.store (cM d) (rSub b t) (k0_pay15 A) Finset.univ hx hm) k) Q) := by
  rw [has_eq, has_eq]
  iintro ⟨%f, %hf, H⟩ Hk
  iapply (wp_store 𝒱₀ (c : Thread nD τ) none Set.univ (m := cM d) (r := rSub b t) (Mk := Finset.univ) (S := (sub d b t).view.set) (f := f)
    (by rw [sub_set]; exact Finset.Subset.refl _)) $$ H
  iintro H
  iapply Hk
  iexists (((cM d).access (rSub b t)).write (Elt F) f (k0_pay15 A) Finset.univ)
  isplitr
  · ipureintro
    exact read_sub_write d b t f A
  iexact H

/-! ## The result buffer -/

/-- Index `i` of column block `t` of a half, in the whole result: through the half or directly. -/
theorem out_emb (d : Bool) (t : Fin 4) (i : S512x1024.Idx) : (rOut d t).emb i = (rHalf d).emb ((rCol t).emb i) := by
  funext a; refine Fin.ext ?_
  fin_cases a
  · show 0 + 1 * (i 0).val = 0 + 1 * (0 + 1 * (i 0).val); omega
  · show (half d + 1024 * t.val) + 1 * (i 1).val = half d + 1 * (1024 * t.val + 1 * (i 1).val); omega

theorem out_disjoint {d d' : Bool} {t t' : Fin 4} (h : ¬ (d' = d ∧ t' = t)) : Disjoint (rOut d' t').set (rOut d t).set := by
  refine Rect.unit_disjoint (1 : Fin 2) ?_
  revert d d' t t' h; decide
theorem half_disjoint {d d' : Bool} (t' : Fin 4) (h : d' ≠ d) : Disjoint (rOut d' t').set (rHalf d).set := by
  refine Rect.unit_disjoint (1 : Fin 2) ?_
  revert d d' t' h; decide

/-- The result buffer, its column block `t` of half `d` holding `g d t`. -/
def outIs (g : Bool → Fin 4 → S512x1024.Idx → Elt F .f32) : sProp 𝕄 :=
  iprop(∃ f : Buf (Elt F) ((c : Thread nD τ).loc cc0_stg4_0), ⌜∀ d t, oM.view.readAt (Elt F) (rOut d t).toLoadRect f = g d t⌝
    ∗ (((c : Thread nD τ).loc cc0_stg4_0) ↦{fullShare} f))

/-- One block, and one half, replaced. -/
def setBlk (g : Bool → Fin 4 → S512x1024.Idx → Elt F .f32) (d : Bool) (t : Fin 4) (A : S512x1024.Idx → Elt F .f32) :
    Bool → Fin 4 → S512x1024.Idx → Elt F .f32 := fun d' t' => if d' = d ∧ t' = t then A else g d' t'
def setHalf (g : Bool → Fin 4 → S512x1024.Idx → Elt F .f32) (d : Bool) (P : S512x4096.Idx → Elt F .f32) :
    Bool → Fin 4 → S512x1024.Idx → Elt F .f32 := fun d' t' => if d' = d then cols t' P else g d' t'

theorem load_out {g : Bool → Fin 4 → S512x1024.Idx → Elt F .f32} {d : Bool} {t : Fin 4} {h} {k : (S512x1024.Idx → Elt F .f32) → Body F} :
    outIs c g ⊢ iprop((outIs c g -∗ run c (k (g d t)) Q) -∗ run c (.op (.load oM (rOut d t).toLoadRect h) k) Q) := by
  unfold outIs
  iintro ⟨%f, %hf, H⟩ Hk
  iapply (wp_load 𝒱₀ (c : Thread nD τ) none Set.univ (m := oM) (r := (rOut d t).toLoadRect) (Finset.subset_univ _)) $$ H
  iintro H
  rw [hf d t]
  iapply Hk
  iexists f
  isplitr; · ipureintro; exact hf
  iexact H

theorem load_half {g : Bool → Fin 4 → S512x1024.Idx → Elt F .f32} {d : Bool} {h} {p : Body F} :
    outIs c g ⊢ iprop((outIs c g -∗ run c p Q) -∗ run c (.op (.load oM (rHalf d).toLoadRect h) fun _ => p) Q) := by
  unfold outIs
  iintro ⟨%f, %hf, H⟩ Hk
  iapply (wp_load 𝒱₀ (c : Thread nD τ) none Set.univ (m := oM) (r := (rHalf d).toLoadRect) (Finset.subset_univ _)) $$ H
  iintro H
  iapply Hk
  iexists f
  isplitr; · ipureintro; exact hf
  iexact H

theorem store_out {g : Bool → Fin 4 → S512x1024.Idx → Elt F .f32} {d : Bool} {t : Fin 4} {A : S512x1024.Idx → Elt F .f32} {hx hm} {k : PUnit → Body F} :
    outIs c g ⊢ iprop((outIs c (setBlk g d t A) -∗ run c (k ⟨⟩) Q)
      -∗ run c (.op (.store oM (rOut d t) A Finset.univ hx hm) k) Q) := by
  unfold outIs
  iintro ⟨%f, %hf, H⟩ Hk
  iapply (wp_store 𝒱₀ (c : Thread nD τ) none Set.univ (m := oM) (r := rOut d t) (Mk := Finset.univ) (Finset.subset_univ _)) $$ H
  iintro H
  iapply Hk
  iexists _
  isplitr
  · ipureintro
    intro d' t'
    unfold setBlk
    by_cases h : d' = d ∧ t' = t
    · obtain ⟨rfl, rfl⟩ := h
      rw [if_pos ⟨rfl, rfl⟩]
      exact View.read_write_univ (v := oM.access (rOut d' t')) f A
    · rw [if_neg h, ← hf d' t']
      exact View.read_slice_write_slice_of_disjoint (v := oM.view) (rOut d' t') (rOut d t) f A Finset.univ
        (View.disjoint_slice (out_disjoint h))
  iexact H

theorem store_half {g : Bool → Fin 4 → S512x1024.Idx → Elt F .f32} {d : Bool} {P : S512x4096.Idx → Elt F .f32} {hx hm} {k : PUnit → Body F} :
    outIs c g ⊢ iprop((outIs c (setHalf g d P) -∗ run c (k ⟨⟩) Q)
      -∗ run c (.op (.store oM (rHalf d) P Finset.univ hx hm) k) Q) := by
  unfold outIs
  iintro ⟨%f, %hf, H⟩ Hk
  iapply (wp_store 𝒱₀ (c : Thread nD τ) none Set.univ (m := oM) (r := rHalf d) (Mk := Finset.univ) (Finset.subset_univ _)) $$ H
  iintro H
  iapply Hk
  iexists _
  isplitr
  · ipureintro
    intro d' t'
    unfold setHalf
    by_cases h : d' = d
    · subst h
      rw [if_pos rfl]
      funext i
      show oM.view.read (Elt F) _ ((rOut d' t').emb i) = P ((rCol t').emb i)
      rw [out_emb]
      exact View.read_slice_write_emb (v := oM.view) (rHalf d') f P (Finset.mem_univ _)
    · rw [if_neg h, ← hf d' t']
      exact View.read_slice_write_slice_of_disjoint (v := oM.view) (rOut d' t') (rHalf d) f P Finset.univ
        (View.disjoint_slice (half_disjoint t' h))
  iexact H

/-! ## The staged operands -/

/-- The staged operands of device `c`. -/
def opsIs (xs : Dev nD → S4096x512.Idx → Elt F .i8) (ws : Dev nD → S512x8192.Idx → Elt F .i8) : sProp 𝕄 :=
  iprop((((c : Thread nD τ).loc cc0_stg0_0) ↦{fullShare} (xs c : Buf (Elt F) ((c : Thread nD τ).loc cc0_stg0_0)))
    ∗ (((c : Thread nD τ).loc cc0_stg1_0) ↦{fullShare} (ws c : Buf (Elt F) ((c : Thread nD τ).loc cc0_stg1_0))))

variable (xs : Dev nD → S4096x512.Idx → Elt F .i8) (ws : Dev nD → S512x8192.Idx → Elt F .i8)

/-- The partial product of a hop. -/
theorem part_step {g : Bool → Fin 4 → S512x1024.Idx → Elt F .f32} (s : Fin 7) (d : Bool) {k : Body F} :
    iprop(opsIs c xs ws ∗ outIs c g)
      ⊢ iprop((opsIs c xs ws ∗ outIs c (setHalf g d (prodAt xs ws d s c)) -∗ run c k Q) -∗ run c (part c s d k) Q) := by
  unfold part opsIs
  iintro ⟨⟨Hx, Hw⟩, Ho⟩ Hk
  iapply (wp_load 𝒱₀ (c : Thread nD τ) none Set.univ (m := xM) (r := (rX c s d).toLoadRect) (Finset.subset_univ _)) $$ Hx; iintro Hx
  iapply (wp_load 𝒱₀ (c : Thread nD τ) none Set.univ (m := wM) (r := (rHalf d).toLoadRect) (Finset.subset_univ _)) $$ Hw; iintro Hw
  iapply (load_half c) $$ Ho; iintro Ho
  iapply (store_half c) $$ Ho; iintro Ho
  iapply Hk
  isplitl [Hx Hw]
  · isplitl [Hx] <;> iassumption
  · iexact Ho

/-- The last hop's addition. -/
theorem emit_step {g : Bool → Fin 4 → S512x1024.Idx → Elt F .f32} (q : F .f32) (d : Bool) (t : Fin 4) (A : IVec S512x1024 32) {k : Body F} :
    outIs c g ⊢ iprop((outIs c (setBlk g d t (k0_pay2 q A)) -∗ run c k Q) -∗ run c (emit q d t A k) Q) := by
  unfold emit
  iintro Ho Hk
  iapply (load_out c) $$ Ho; iintro Ho
  iapply (store_out c) $$ Ho; iintro Ho
  iapply Hk; iexact Ho

end Cert.KernelIdealProof

end
-- ==== Proof.KernelIdeal.Moves.lean ====
/-
# The barriers and the copies

What a barrier, a copy and the waits at its end do to what the device holds, at a symbolic hop.
-/
module

public import proofs.«01_k».proof.Proof.KernelIdeal.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → S4096x512.Idx → Elt F .i8) (ws : Dev nD → S512x8192.Idx → Elt F .i8)

/-! ## What all steps know -/

/-- Every cell's invariant, under the names `K`; and that every cell is at round 0 at least. -/
def records (K : Dev nD × Ki → ℕ) : sProp 𝕄 :=
  iprop((bigSep Finset.univ fun p : Dev nD × Ki => cellInv ER (sched xs ws) (K p) (cell p.1 p.2))
    ∗ bigSep Finset.univ fun p : Dev nD × Ki => reached ER (cell p.1 p.2) 0)

instance records_persistent (K : Dev nD × Ki → ℕ) : BI.Persistent (records xs ws K) := by unfold records; infer_instance

theorem invs_elim (K : Dev nD × Ki → ℕ) (p : Dev nD × Ki) :
    (bigSep Finset.univ fun p : Dev nD × Ki => (cellInv ER (sched xs ws) (K p) (cell p.1 p.2) : sProp 𝕄)) ⊢ cellInv ER (sched xs ws) (K p) (cell p.1 p.2) :=
  open Classical in bigSep_elim (Finset.mem_univ p)
theorem zeros_elim (p : Dev nD × Ki) :
    (bigSep Finset.univ fun p : Dev nD × Ki => (reached ER (cell p.1 p.2) 0 : sProp 𝕄)) ⊢ reached ER (cell p.1 p.2) 0 :=
  open Classical in bigSep_elim (Finset.mem_univ p)
theorem inv_at (K : Dev nD × Ki → ℕ) (c : Dev nD) (k : Ki) : records xs ws K ⊢ cellInv ER (sched xs ws) (K (c, k)) (cell c k) := by
  unfold records
  iintro ⟨#H, -⟩
  iapply (invs_elim xs ws K (c, k)); iexact H
theorem zero_at (K : Dev nD × Ki → ℕ) (c : Dev nD) (k : Ki) : records xs ws K ⊢ reached ER (cell c k) 0 := by
  unfold records
  iintro ⟨-, #H⟩
  iapply (zeros_elim (F := F) (c, k)); iexact H

variable (K : Dev nD × Ki → ℕ) (c : Dev nD) {Q : Post F}

/-- The invariants and the order of the waits. -/
def env : sProp 𝕄 := iprop(records xs ws K ∗ levAts (SiteBlocks.L 16) SiteBlocks.lv)
instance env_persistent : BI.Persistent (env xs ws K) := by unfold env; infer_instance

/-- What device `c` owes. -/
def ow (l : List Due) : sProp 𝕄 := iprop(∃ W, owes (c : Thread nD τ) (owe c l) W)

/-! ## The schedule at the semaphores that the program names -/

theorem bar_mem (n : Dev nD) (s : Fin 7) (d : Bool) : d ∈ (sched xs ws).duties ((n : Thread nD τ), SemLoc.reg barS) s.val := by
  show d ∈ (sched xs ws).duties (cell n barK) s.val
  rw [duties_cell xs ws n barK s.val s.isLt]; exact Finset.mem_univ _
theorem bar_pay (n : Dev nD) (r : ℕ) (d : Bool) : (sched xs ws).payload ((n : Thread nD τ), SemLoc.reg barS) r d = barPay n r d :=
  payload_cell xs ws n barK r d
theorem bar_rest (n : Dev nD) (s : Fin 7) :
    bigSep ((sched xs ws).duties ((n : Thread nD τ), SemLoc.reg barS) s.val \ ∅) (fun d => (sched xs ws).payload ((n : Thread nD τ), SemLoc.reg barS) s.val d)
      = iprop(barPay (F := F) n s.val false ∗ barPay (F := F) n s.val true) := rest_bar xs ws n s.val s.isLt
theorem bar_expect (n : Dev nD) (s : Fin 7) : (sched xs ws).expect ((n : Thread nD τ), SemLoc.reg barS) s.val = 2 := expect_bar xs ws n s.val s.isLt

theorem round_lt (s : Fin 7) (d : Bool) (t : Fin 4) : s.val / 2 < rounds (sendK d (slot s.val) t) := by
  revert s d t; decide

theorem send_mem (n : Dev nD) (s : Fin 7) (d : Bool) (t : Fin 4) :
    false ∈ (sched xs ws).duties ((n : Thread nD τ), SemLoc.dma (ssem d (slotA s) t)) (s.val / 2) := by
  show false ∈ (sched xs ws).duties (cell n (sendK d (slot s.val) t)) (s.val / 2)
  rw [duties_cell xs ws n _ _ (round_lt s d t)]; exact Finset.mem_singleton_self _
theorem recv_mem (n : Dev nD) (s : Fin 7) (d : Bool) (t : Fin 4) :
    false ∈ (sched xs ws).duties ((n : Thread nD τ), SemLoc.dma (rsem d s t)) 0 := by
  show false ∈ (sched xs ws).duties (cell n (recvK d s t)) 0
  rw [duties_cell xs ws n _ _ (show 0 < 1 by decide)]; exact Finset.mem_singleton_self _
theorem send_rest (n : Dev nD) (s : Fin 7) (d : Bool) (t : Fin 4) :
    bigSep ((sched xs ws).duties ((n : Thread nD τ), SemLoc.dma (ssem d (slotA s) t)) (s.val / 2) \ ∅)
      (fun e => (sched xs ws).payload ((n : Thread nD τ), SemLoc.dma (ssem d (slotA s) t)) (s.val / 2) e)
      = free (F := F) n d (slot s.val) t := rest_own xs ws n (.inl (d, slot s.val, t)) _ (round_lt s d t)
theorem recv_rest (n : Dev nD) (s : Fin 7) (d : Bool) (t : Fin 4) :
    bigSep ((sched xs ws).duties ((n : Thread nD τ), SemLoc.dma (rsem d s t)) 0 \ ∅)
      (fun e => (sched xs ws).payload ((n : Thread nD τ), SemLoc.dma (rsem d s t)) 0 e)
      = recvPay xs ws n d s t := rest_own xs ws n (.inr (d, s, t)) 0 (show 0 < 1 by decide)
theorem send_expect (n : Dev nD) (s : Fin 7) (d : Bool) (t : Fin 4) :
    (sched xs ws).expect ((n : Thread nD τ), SemLoc.dma (ssem d (slotA s) t)) (s.val / 2) = N :=
  expect_own xs ws n (.inl (d, slot s.val, t)) _ (round_lt s d t)
theorem recv_expect (n : Dev nD) (s : Fin 7) (d : Bool) (t : Fin 4) :
    (sched xs ws).expect ((n : Thread nD τ), SemLoc.dma (rsem d s t)) 0 = N :=
  expect_own xs ws n (.inr (d, s, t)) 0 (show 0 < 1 by decide)

theorem send_amount (n : Dev nD) (s : Fin 7) (d : Bool) (t : Fin 4) :
    (sched xs ws).amount ((n : Thread nD τ), SemLoc.dma (ssem d (slotA s) t)) (s.val / 2) false = N := amount_own xs ws n (.inl (d, slot s.val, t)) _ _
theorem recv_amount (n : Dev nD) (s : Fin 7) (d : Bool) (t : Fin 4) :
    (sched xs ws).amount ((n : Thread nD τ), SemLoc.dma (rsem d s t)) 0 false = N := amount_own xs ws n (.inr (d, s, t)) _ _
theorem owe_send (s : Fin 7) (d : Bool) (t : Fin 4) (l : List Due) :
    owe c ((d, recvK d s t, 2 * s.val + 2, N) :: l)
      = owe c l + tallyAt (((peer c d : Dev nD) : Thread nD τ), SemLoc.dma (rsem d s t)) (2 * s.val + 2) N := rfl

/-- What a copy leaves in its source is its send cell's payload; what it writes is its receive cell's. -/
theorem send_pays (s : Fin 7) (d : Bool) (t : Fin 4) (fs : (cM d).view.ty.Contents (Elt F)) :
    ((sub d (slotA s) t).view.loc (c : Thread nD τ) ↦[(sub d (slotA s) t).view.set]{fullShare} fs)
      ⊢ (sched xs ws).payload ((c : Thread nD τ), SemLoc.dma (ssem d (slotA s) t)) (s.val / 2) false := by
  rw [show (sched xs ws).payload ((c : Thread nD τ), SemLoc.dma (ssem d (slotA s) t)) (s.val / 2) false = free (F := F) c d (slot s.val) t from
    payload_cell xs ws c (sendK d (slot s.val) t) (s.val / 2) false]
  unfold free has owns
  iintro H
  iexists _, fs
  isplitr; · ipureintro; rfl
  iexact H
theorem recv_pays (s : Fin 7) (d : Bool) (t : Fin 4) (fs fd : (cM d).view.ty.Contents (Elt F))
    (hfs : (sub d (slotA s) t).view.read (Elt F) fs = val xs ws d s.val c t) :
    iprop(((sub d (slotB s) t).view.loc ((peer c d : Dev nD) : Thread nD τ) ↦[(sub d (slotB s) t).view.set]{fullShare}
        ((sub d (slotB s) t).view.write (Elt F) fd ((sub d (slotA s) t).view.read (Elt F) fs) Finset.univ)) ∗ reached ER (cell c barK) (s.val + 1))
      ⊢ (sched xs ws).payload (((peer c d : Dev nD) : Thread nD τ), SemLoc.dma (rsem d s t)) 0 false := by
  rw [show (sched xs ws).payload (((peer c d : Dev nD) : Thread nD τ), SemLoc.dma (rsem d s t)) 0 false = recvPay xs ws (peer c d) d s t from
    payload_cell xs ws (peer c d) (recvK d s t) 0 false]
  unfold recvPay has owns
  rw [peer_peer]
  iintro ⟨H, #Hb⟩
  isplitl [H]
  · iexists _
    isplitr
    swap; · iexact H
    · ipureintro
      exact (View.read_write_univ (v := (sub d (slotB s) t).view) (Val := Elt F) fd _).trans hfs
  iexact Hb

/-! ## The barrier -/

def four (f : Fin 4 → sProp 𝕄) : sProp 𝕄 := iprop(f 0 ∗ f 1 ∗ f 2 ∗ f 3)
def eight (f : Bool → Fin 4 → sProp 𝕄) : sProp 𝕄 := iprop(four (f false) ∗ four (f true))

/-- What device `c` needs for the signals and the wait of barrier `n`. -/
def barT (n : ℕ) : sProp 𝕄 :=
  iprop(dutyTok ER (cell (peer c true) barK) n false ∗ dutyTok ER (cell (peer c false) barK) n true
    ∗ cred (tallyAt (cell c barK) (2 * n + 1) 2))
/-- Both neighbours have passed barrier `n - 1`. -/
def nbrs (n : ℕ) : sProp 𝕄 := iprop(reached ER (cell (peer c true) barK) n ∗ reached ER (cell (peer c false) barK) n)
instance nbrs_persistent (n : ℕ) : BI.Persistent (nbrs (F := F) c n) := by unfold nbrs; infer_instance

theorem barPay_own (n : ℕ) (d : Bool) : barPay (F := F) (peer c d) n (!d) = four fun t => free (F := F) c (!d) (slot (n + 1)) t := by
  unfold barPay four; rw [peer_peer]

theorem barrier_step (s : Fin 7) (l : List Due) (hl : ∀ e ∈ l, 2 * s.val + 2 ≤ e.2.2.1 ∧ e.2.2.1 < 16) {k : Body F} :
    iprop(env xs ws K ∗ nbrs c s.val ∗ barT c s.val ∗ atPos ER (cell c barK) s.val ∅ 0
        ∗ eight (fun d t => free (F := F) c d (slot (s.val + 1)) t) ∗ ow c (signals s ++ l))
      ⊢ iprop((atPos ER (cell c barK) (s.val + 1) ∅ 0 ∗ reached ER (cell c barK) (s.val + 1)
          ∗ eight (fun d t => free (F := F) (peer c d) d (slot (s.val + 1)) t) ∗ ow c l -∗ run c k Q) -∗ run c (barrier c k) Q) := by
  unfold barrier env nbrs barT ow eight
  iintro ⟨⟨#HI, #Hlev⟩, ⟨#HrT, #HrF⟩, ⟨HtT, HtF, Hc⟩, Hat, ⟨HfF, HfT⟩, %W, HO⟩ Hk
  iapply (Rounds.wp_signal 𝒱₀ ER (sched xs ws) (c : Thread nD τ) none (dst := (peer c true : Thread nD τ)) (κ := K (peer c true, barK))
      (r := s.val) (d := false) (bar_mem xs ws (peer c true) s false)
      ((amount_bar xs ws (peer c true) s.val false).trans (by decide)) (2 * s.val + 1) (owe c ((false, barK, 2 * s.val + 1, 1) :: l)) rfl) $$ [HO HtT HfF]
  · isplitr; · iapply (inv_at xs ws K (peer c true) barK); iexact HI
    isplitl [HO]; · iexact HO
    isplitl [HtT]; · iexact HtT
    isplitl [HfF]
    · iapply (Entails.of_eq ((bar_pay xs ws (peer c true) s.val false).trans (barPay_own c s.val true)).symm); iexact HfF
    iexact HrT
  iintro HO
  iapply (Rounds.wp_signal 𝒱₀ ER (sched xs ws) (c : Thread nD τ) none (dst := (peer c false : Thread nD τ)) (κ := K (peer c false, barK))
      (r := s.val) (d := true) (bar_mem xs ws (peer c false) s true)
      ((amount_bar xs ws (peer c false) s.val true).trans (by decide)) (2 * s.val + 1) (owe c l) rfl) $$ [HO HtF HfT]
  · isplitr; · iapply (inv_at xs ws K (peer c false) barK); iexact HI
    isplitl [HO]; · iexact HO
    isplitl [HtF]; · iexact HtF
    isplitl [HfT]
    · iapply (Entails.of_eq ((bar_pay xs ws (peer c false) s.val true).trans (barPay_own c s.val false)).symm); iexact HfT
    iexact HrF
  iintro HO
  iapply (Rounds.wp_wait_rest_token 𝒱₀ ER (sched xs ws) (c : Thread nD τ) none (κ := K (c, barK))
      (wpE_semWait_eq 𝒱₀ (c : Thread nD τ) none Set.univ) (Set.mem_univ _) (2 * s.val + 1) (O := owe c l) (W := W) (R := s.val) (m := 0) (T := ∅)
      (by rw [bar_expect xs ws c s]; decide)) $$ [Hc HO Hat]
  · isplitr; · iapply (inv_at xs ws K c barK); iexact HI
    isplitl [Hc]; · iexact Hc
    isplitl [HO]; · iexact HO
    isplitr
    · iapply (mayWait c (.reg barS) (2 * s.val + 1) l (by omega) (fun e he => ⟨by have := (hl e he).1; omega, (hl e he).2⟩)); iexact Hlev
    iexact Hat
  iintro ⟨HO, Hat, #Hr, Hpay⟩
  ihave Hp := (Entails.of_eq (bar_rest xs ws c s)) $$ Hpay
  iapply Hk
  isplitl [Hat]; · iexact Hat
  isplitr; · iexact Hr
  isplitl [Hp]; · iexact Hp
  iexists _; iexact HO

/-! ## A copy -/

/-- Device `c`'s send cell of a slot's column block, at round `r`. -/
def sendAt (d : Bool) (b : Fin 2) (t : Fin 4) (r : ℕ) : sProp 𝕄 :=
  iprop(atPos ER (cell c (sendK d b t)) r ∅ 0 ∗ reached ER (cell c (sendK d b t)) r)
/-- Both send cells of a column block before hop `n`. -/
def sendsAt (n : ℕ) (d : Bool) (t : Fin 4) : sProp 𝕄 :=
  iprop(sendAt (F := F) c d (slot n) t (n / 2) ∗ sendAt (F := F) c d (slot (n + 1)) t ((n + 1) / 2))
/-- The tokens of a copy of hop `s`, and what its receiving end needs. -/
def hopT (s : Fin 7) (d : Bool) (t : Fin 4) : sProp 𝕄 :=
  iprop(dutyTok ER (cell c (sendK d (slot s.val) t)) (s.val / 2) false ∗ dutyTok ER (cell (peer c d) (recvK d s t)) 0 false
    ∗ atPos ER (cell c (recvK d s t)) 0 ∅ 0 ∗ cred (tallyAt (cell c (recvK d s t)) (2 * s.val + 2) N))
/-- A column block before a copy, and during it. -/
def ready (s : Fin 7) (d : Bool) (t : Fin 4) : sProp 𝕄 :=
  iprop(has c d (slot s.val) t (val xs ws d s.val c t) ∗ free (F := F) (peer c d) d (slot (s.val + 1)) t ∗ sendsAt (F := F) c s.val d t)
def flying (s : Fin 7) (d : Bool) (t : Fin 4) : sProp 𝕄 :=
  iprop(sendsAt (F := F) c s.val d t ∗ cred (tallyAt (cell c (sendK d (slot s.val) t)) 0 N)
    ∗ atPos ER (cell c (recvK d s t)) 0 ∅ 0 ∗ cred (tallyAt (cell c (recvK d s t)) (2 * s.val + 2) N))
/-- A column block between the hops. -/
def resting (n : ℕ) (d : Bool) (t : Fin 4) : sProp 𝕄 :=
  iprop(has c d (slot n) t (val xs ws d n c t) ∗ free (F := F) c d (slot (n + 1)) t ∗ sendsAt (F := F) c n d t)

theorem send_step (s : Fin 7) (d : Bool) (t : Fin 4) (l : List Due) {k : Body F} :
    iprop(env xs ws K ∗ reached ER (cell c barK) (s.val + 1) ∗ ready xs ws c s d t ∗ hopT c s d t ∗ ow c ((d, recvK d s t, 2 * s.val + 2, N) :: l))
      ⊢ iprop((flying c s d t ∗ ow c l -∗ run c k Q) -∗ run c (send c s d t k) Q) := by
  unfold send env ready flying hopT ow sendsAt sendAt free has owns
  rw [show slot s.val = slotA s from rfl, show slot (s.val + 1) = slotB s from rfl]
  iintro ⟨⟨#HI, #Hlev⟩, #Hb, ⟨⟨%fs, %hfs, Hs⟩, ⟨%v, %fd, %hfd, Hd⟩, ⟨Hat, #Hr⟩, Hat', #Hr'⟩, ⟨HtS, HtR, HatR, HcR⟩, %W, HO⟩ Hk
  iapply (Rounds.wp_send_pointsTo_with (Q := Q) (defs := defs₀ (F := F)) 𝒱₀ ER (sched xs ws) (c : Thread nD τ) none (Es := Set.univ) (Γ := []) (W := W)
      (src := sub d (slotA s) t) (dst := sub d (slotB s) t) (c' := ((peer c d : Dev nD) : Thread nD τ))
      (sS := .dma (ssem d (slotA s) t)) (sem := .dma (rsem d s t)) (hsc := sub_scratch (peer c d) d (slotB s) t)
      (hsrc := sub_word d (slotA s) t) (hdst := sub_word d (slotB s) t) (hsem := ⟨⟨rfl, Or.inl rfl⟩, trivial⟩) (k := fun _ => k)
      (κ₁ := K (c, sendK d (slotA s) t)) (κ₂ := K (peer c d, recvK d s t)) (r₁ := s.val / 2) (r₂ := 0) (d₁ := false) (d₂ := false)
      (q := fullShare) (fs := fs) (fd := fd) (F := reached ER (cell c barK) (s.val + 1))
      (send_mem xs ws c s d t) (recv_mem xs ws (peer c d) s d t) (2 * s.val + 2) 0 N (credit_sub d (slotB s) t)
      (send_amount xs ws c s d t) (recv_amount xs ws (peer c d) s d t) (owe c l) (owe_send c s d t l)
      (send_pays xs ws c s d t fs) (recv_pays xs ws c s d t fs fd hfs)) $$ [Hs Hd HO HtS HtR]
  · isplitr; · iapply (inv_at xs ws K c (sendK d (slotA s) t)); iexact HI
    isplitr; · iapply (inv_at xs ws K (peer c d) (recvK d s t)); iexact HI
    isplitl [Hs]; · iexact Hs
    isplitl [Hd]
    · isplitl [Hd]; · iexact Hd
      iexact Hb
    isplitl [HO]; · iexact HO
    isplitl [HtS]; · iexact HtS
    isplitr; · iexact Hr
    isplitl [HtR]; · iexact HtR
    iapply (zero_at xs ws K (peer c d) (recvK d s t)); iexact HI
  iintro ⟨HcS, HO⟩
  iapply Hk
  isplitr [HO]
  · isplitl [Hat Hat']
    · isplitl [Hat]
      · isplitl [Hat]; · iexact Hat
        iexact Hr
      · isplitl [Hat']; · iexact Hat'
        iexact Hr'
    isplitl [HcS]; · iexact HcS
    isplitl [HatR]; · iexact HatR
    iexact HcR
  · iexists W; iexact HO

/-! ## The end of a copy -/

theorem val_next (s : Fin 7) (d : Bool) (t : Fin 4) :
    val xs ws d (s.val + 1) c t = k0_pay14 (k0_pay15 (val xs ws d s.val (peer c (!d)) t)) (cols t (prodAt xs ws d s c)) := by
  show k0_pay14 (k0_pay15 (val xs ws d s.val (peer c (!d)) t)) (cols t (prodAt xs ws d (Fin.ofNat 7 s.val) c)) = _
  rw [show Fin.ofNat 7 s.val = s from Fin.ext (Nat.mod_eq_of_lt s.isLt)]
theorem half_next (n : ℕ) : (n + 1 + 1) / 2 = n / 2 + 1 := by omega

theorem finish_step {g : Bool → Fin 4 → S512x1024.Idx → Elt F .f32} (s : Fin 7) (d : Bool) (t : Fin 4)
    (hg : g d t = cols t (prodAt xs ws d s c)) (l : List Due)
    (hl : ∀ e ∈ l, 2 * s.val + 3 ≤ e.2.2.1 ∧ e.2.2.1 < 16) {k : IVec S512x1024 32 → Body F} :
    iprop(env xs ws K ∗ flying c s d t ∗ outIs c g ∗ ow c l)
      ⊢ iprop((resting xs ws c (s.val + 1) d t ∗ semVal (cell c (recvK d s t)) 0 ∗ reached ER (cell (peer c (!d)) barK) (s.val + 1)
          ∗ outIs c g ∗ ow c l -∗ run c (k (val xs ws d (s.val + 1) c t)) Q) -∗ run c (finish s d t k) Q) := by
  unfold finish env flying ow sendsAt sendAt
  iintro ⟨⟨#HI, #Hlev⟩, ⟨⟨⟨Hat, -⟩, Hat', #Hr'⟩, HcS, HatR, HcR⟩, Ho, %W, HO⟩ Hk
  iapply (Rounds.wp_wait_rest_token 𝒱₀ ER (sched xs ws) (c : Thread nD τ) none (κ := K (c, sendK d (slot s.val) t))
      (wpE_waitDma2_eq 𝒱₀ (c : Thread nD τ) none Set.univ) (Set.mem_univ _) 0 (O := owe c l) (W := W) (R := s.val / 2) (m := 0) (T := ∅)
      (by rw [Nat.zero_add, credit_sub]; exact (send_expect xs ws c s d t).symm)) $$ [HcS HO Hat]
  · isplitr; · iapply (inv_at xs ws K c (sendK d (slot s.val) t)); iexact HI
    isplitl [HcS]; · rw [credit_sub]; iexact HcS
    isplitl [HO]; · iexact HO
    isplitr
    · iapply (mayWait c _ 0 l (by decide) (fun e he => ⟨by have := (hl e he).1; omega, (hl e he).2⟩)); iexact Hlev
    iexact Hat
  iintro ⟨HO, Hat, #Hr, Hpay⟩
  ihave Hf := (Entails.of_eq (send_rest xs ws c s d t)) $$ Hpay
  iapply (Rounds.wp_wait_rest_token 𝒱₀ ER (sched xs ws) (c : Thread nD τ) none (κ := K (c, recvK d s t))
      (wpE_waitDma2_eq 𝒱₀ (c : Thread nD τ) none Set.univ) (Set.mem_univ _) (2 * s.val + 2) (O := owe c l) (R := 0) (m := 0) (T := ∅)
      (by rw [Nat.zero_add, credit_sub]; exact (recv_expect xs ws c s d t).symm)) $$ [HcR HO HatR]
  · isplitr; · iapply (inv_at xs ws K c (recvK d s t)); iexact HI
    isplitl [HcR]; · rw [credit_sub]; iexact HcR
    isplitl [HO]; · iexact HO
    isplitr
    · iapply (mayWait c _ (2 * s.val + 2) l (by omega) (fun e he => ⟨by have := (hl e he).1; omega, (hl e he).2⟩)); iexact Hlev
    iexact HatR
  iintro ⟨HO, HatR, -, Hpay⟩
  ihave Hp := (Entails.of_eq (recv_rest xs ws c s d t)) $$ Hpay
  unfold recvPay
  icases Hp with ⟨Hh, #Hn⟩
  imod (Rounds.cell_close ER (sched xs ws) (Set.mem_univ (K (c, recvK d s t))) (fun h => h) (R := 0 + 1)
    (duties_over xs ws c (recvK d s t))) $$ [HatR] with Hz
  · isplitr; · iapply (inv_at xs ws K c (recvK d s t)); iexact HI
    iexact HatR
  iapply (load_piece c) $$ Hh; iintro Hh
  iapply (load_out c) $$ Ho; iintro Ho
  iapply (load_piece c) $$ Hh; iintro Hh
  iapply (store_piece c) $$ Hh; iintro Hh
  rw [hg, ← val_next]
  iapply Hk
  unfold resting sendsAt sendAt
  rw [slot_add_two, half_next]
  isplitl [Hh Hf Hat Hat']
  · isplitl [Hh]; · iexact Hh
    isplitl [Hf]; · iexact Hf
    isplitl [Hat']
    · isplitl [Hat']; · iexact Hat'
      iexact Hr'
    · isplitl [Hat]; · iexact Hat
      iexact Hr
  isplitl [Hz]; · iexact Hz
  isplitr; · iexact Hn
  isplitl [Ho]; · iexact Ho
  iexists _; iexact HO

end Cert.KernelIdealProof

end
-- ==== Proof.KernelIdeal.Walk.lean ====
/-
# From hop to hop

The state between the hops, and that each barrier and each hop leads from one to the next.
-/
module

public import proofs.«01_k».proof.Proof.KernelIdeal.Moves

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → S4096x512.Idx → Elt F .i8) (ws : Dev nD → S512x8192.Idx → Elt F .i8)
variable (K : Dev nD × Ki → ℕ) (c : Dev nD) {Q : Post F}

/-! ## Several pieces at once -/

theorem four_mono {f g : Fin 4 → sProp 𝕄} (h : ∀ t, f t ⊢ g t) : four f ⊢ four g := by
  unfold four
  iintro ⟨H0, H1, H2, H3⟩
  isplitl [H0]; · iapply (h 0); iexact H0
  isplitl [H1]; · iapply (h 1); iexact H1
  isplitl [H2]; · iapply (h 2); iexact H2
  iapply (h 3); iexact H3
theorem eight_mono {f g : Bool → Fin 4 → sProp 𝕄} (h : ∀ d t, f d t ⊢ g d t) : eight f ⊢ eight g := by
  unfold eight
  iintro ⟨H0, H1⟩
  isplitl [H0]
  · iapply (four_mono (h false)); iexact H0
  · iapply (four_mono (h true)); iexact H1
theorem four_sep (f g : Fin 4 → sProp 𝕄) : four (fun t => iprop(f t ∗ g t)) ⊢ iprop(four f ∗ four g) := by
  unfold four
  iintro ⟨⟨A0, B0⟩, ⟨A1, B1⟩, ⟨A2, B2⟩, A3, B3⟩
  isplitl [A0 A1 A2 A3]
  · isplitl [A0]; · iexact A0
    isplitl [A1]; · iexact A1
    isplitl [A2] <;> iassumption
  · isplitl [B0]; · iexact B0
    isplitl [B1]; · iexact B1
    isplitl [B2] <;> iassumption
theorem sep_four (f g : Fin 4 → sProp 𝕄) : iprop(four f ∗ four g) ⊢ four (fun t => iprop(f t ∗ g t)) := by
  unfold four
  iintro ⟨⟨A0, A1, A2, A3⟩, B0, B1, B2, B3⟩
  isplitl [A0 B0]; · isplitl [A0] <;> iassumption
  isplitl [A1 B1]; · isplitl [A1] <;> iassumption
  isplitl [A2 B2]; · isplitl [A2] <;> iassumption
  isplitl [A3] <;> iassumption
theorem eight_sep (f g : Bool → Fin 4 → sProp 𝕄) : eight (fun d t => iprop(f d t ∗ g d t)) ⊢ iprop(eight f ∗ eight g) := by
  unfold eight
  iintro ⟨H0, H1⟩
  ihave H0 := (four_sep (f false) (g false)) $$ H0
  ihave H1 := (four_sep (f true) (g true)) $$ H1
  icases H0 with ⟨A0, B0⟩
  icases H1 with ⟨A1, B1⟩
  isplitl [A0 A1]
  · isplitl [A0] <;> iassumption
  · isplitl [B0] <;> iassumption
theorem sep_eight (f g : Bool → Fin 4 → sProp 𝕄) : iprop(eight f ∗ eight g) ⊢ eight (fun d t => iprop(f d t ∗ g d t)) := by
  unfold eight
  iintro ⟨⟨A0, A1⟩, B0, B1⟩
  isplitl [A0 B0]
  · iapply (sep_four (f false) (g false)); isplitl [A0] <;> iassumption
  · iapply (sep_four (f true) (g true)); isplitl [A1] <;> iassumption

/-! ## The parts of a hop -/

/-- The four copies of a ring. -/
theorem sends_step (s : Fin 7) (d : Bool) (l : List Due) {k : Body F} :
    iprop(env xs ws K ∗ reached ER (cell c barK) (s.val + 1) ∗ four (ready xs ws c s d) ∗ four (hopT (F := F) c s d)
        ∗ ow c ((d, recvK d s 0, 2 * s.val + 2, N) :: (d, recvK d s 1, 2 * s.val + 2, N) :: (d, recvK d s 2, 2 * s.val + 2, N)
          :: (d, recvK d s 3, 2 * s.val + 2, N) :: l))
      ⊢ iprop((four (flying (F := F) c s d) ∗ ow c l -∗ run c k Q)
        -∗ run c (send c s d 0 <| send c s d 1 <| send c s d 2 <| send c s d 3 k) Q) := by
  unfold four
  iintro ⟨#He, #Hb, ⟨R0, R1, R2, R3⟩, ⟨T0, T1, T2, T3⟩, HO⟩ Hk
  iapply (send_step xs ws K c s d 0 _) $$ [R0 T0 HO]
  · isplitr; · iexact He
    isplitr; · iexact Hb
    isplitl [R0]; · iexact R0
    isplitl [T0] <;> iassumption
  iintro ⟨F0, HO⟩
  iapply (send_step xs ws K c s d 1 _) $$ [R1 T1 HO]
  · isplitr; · iexact He
    isplitr; · iexact Hb
    isplitl [R1]; · iexact R1
    isplitl [T1] <;> iassumption
  iintro ⟨F1, HO⟩
  iapply (send_step xs ws K c s d 2 _) $$ [R2 T2 HO]
  · isplitr; · iexact He
    isplitr; · iexact Hb
    isplitl [R2]; · iexact R2
    isplitl [T2] <;> iassumption
  iintro ⟨F2, HO⟩
  iapply (send_step xs ws K c s d 3 _) $$ [R3 T3 HO]
  · isplitr; · iexact He
    isplitr; · iexact Hb
    isplitl [R3]; · iexact R3
    isplitl [T3] <;> iassumption
  iintro ⟨F3, HO⟩
  iapply Hk
  isplitr [HO]
  · isplitl [F0]; · iexact F0
    isplitl [F1]; · iexact F1
    isplitl [F2] <;> iassumption
  iexact HO

/-- The result buffer after both partial products of a hop. -/
def parts (s : Fin 7) : Bool → Fin 4 → S512x1024.Idx → Elt F .f32 := fun d t => cols t (prodAt xs ws d s c)
theorem parts_eq (s : Fin 7) (g : Bool → Fin 4 → S512x1024.Idx → Elt F .f32) :
    setHalf (setHalf g false (prodAt xs ws false s c)) true (prodAt xs ws true s c) = parts xs ws c s := by
  funext d t; cases d <;> rfl

theorem begin_step (s : Fin 7) (l : List Due) (g : Bool → Fin 4 → S512x1024.Idx → Elt F .f32) {k : Body F} :
    iprop(env xs ws K ∗ reached ER (cell c barK) (s.val + 1) ∗ eight (ready xs ws c s) ∗ eight (hopT (F := F) c s)
        ∗ ow c (sends s ++ l) ∗ opsIs c xs ws ∗ outIs c g)
      ⊢ iprop((eight (flying (F := F) c s) ∗ ow c l ∗ opsIs c xs ws ∗ outIs c (parts xs ws c s) -∗ run c k Q) -∗ run c (begin_ c s k) Q) := by
  unfold begin_ eight
  iintro ⟨#He, #Hb, ⟨R0, R1⟩, ⟨T0, T1⟩, HO, Hx, Ho⟩ Hk
  iapply (sends_step xs ws K c s false _) $$ [R0 T0 HO]
  · isplitr; · iexact He
    isplitr; · iexact Hb
    isplitl [R0]; · iexact R0
    isplitl [T0]; · iexact T0
    iexact HO
  iintro ⟨F0, HO⟩
  iapply (sends_step xs ws K c s true l) $$ [R1 T1 HO]
  · isplitr; · iexact He
    isplitr; · iexact Hb
    isplitl [R1]; · iexact R1
    isplitl [T1]; · iexact T1
    iexact HO
  iintro ⟨F1, HO⟩
  iapply (part_step c xs ws s false) $$ [Hx Ho]
  · isplitl [Hx] <;> iassumption
  iintro ⟨Hx, Ho⟩
  iapply (part_step c xs ws s true) $$ [Hx Ho]
  · isplitl [Hx] <;> iassumption
  iintro ⟨Hx, Ho⟩
  rw [parts_eq]
  iapply Hk
  isplitl [F0 F1]; · isplitl [F0] <;> iassumption
  isplitl [HO]; · iexact HO
  isplitl [Hx] <;> iassumption

/-- A column block that has been through hop `s`. -/
def landedAt (s : Fin 7) (d : Bool) (t : Fin 4) : sProp 𝕄 :=
  iprop(resting xs ws c (s.val + 1) d t ∗ semVal (cell c (recvK d s t)) 0)

/-- The ends of the copies of column block `t` in both rings. -/
theorem pair_step (s : Fin 7) (t : Fin 4) (l : List Due) (hl : ∀ e ∈ l, 2 * s.val + 3 ≤ e.2.2.1 ∧ e.2.2.1 < 16) {k : Body F} :
    iprop(env xs ws K ∗ flying (F := F) c s false t ∗ flying (F := F) c s true t ∗ outIs c (parts xs ws c s) ∗ ow c l)
      ⊢ iprop((landedAt xs ws c s false t ∗ landedAt xs ws c s true t ∗ nbrs (F := F) c (s.val + 1) ∗ outIs c (parts xs ws c s) ∗ ow c l -∗ run c k Q)
        -∗ run c (finish s false t fun _ => finish s true t fun _ => k) Q) := by
  unfold landedAt nbrs
  iintro ⟨#He, F0, F1, Ho, HO⟩ Hk
  iapply (finish_step xs ws K c (g := parts xs ws c s) s false t rfl l hl) $$ [F0 Ho HO]
  · isplitr; · iexact He
    isplitl [F0]; · iexact F0
    isplitl [Ho] <;> iassumption
  iintro ⟨P0, Z0, #N0, Ho, HO⟩
  iapply (finish_step xs ws K c (g := parts xs ws c s) s true t rfl l hl) $$ [F1 Ho HO]
  · isplitr; · iexact He
    isplitl [F1]; · iexact F1
    isplitl [Ho] <;> iassumption
  iintro ⟨P1, Z1, #N1, Ho, HO⟩
  iapply Hk
  isplitl [P0 Z0]; · isplitl [P0] <;> iassumption
  isplitl [P1 Z1]; · isplitl [P1] <;> iassumption
  isplitr
  · isplitl; · iexact N0
    iexact N1
  isplitl [Ho] <;> iassumption

theorem ends_step (s : Fin 7) (l : List Due) (hl : ∀ e ∈ l, 2 * s.val + 3 ≤ e.2.2.1 ∧ e.2.2.1 < 16) {k : Body F} :
    iprop(env xs ws K ∗ eight (flying (F := F) c s) ∗ outIs c (parts xs ws c s) ∗ ow c l)
      ⊢ iprop((eight (landedAt xs ws c s) ∗ nbrs (F := F) c (s.val + 1) ∗ outIs c (parts xs ws c s) ∗ ow c l -∗ run c k Q)
        -∗ run c (ends s k) Q) := by
  unfold ends eight four
  iintro ⟨#He, ⟨⟨A0, A1, A2, A3⟩, B0, B1, B2, B3⟩, Ho, HO⟩ Hk
  iapply (pair_step xs ws K c s 0 l hl) $$ [A0 B0 Ho HO]
  · isplitr; · iexact He
    isplitl [A0]; · iexact A0
    isplitl [B0]; · iexact B0
    isplitl [Ho] <;> iassumption
  iintro ⟨A0, B0, #Hn, Ho, HO⟩
  iapply (pair_step xs ws K c s 1 l hl) $$ [A1 B1 Ho HO]
  · isplitr; · iexact He
    isplitl [A1]; · iexact A1
    isplitl [B1]; · iexact B1
    isplitl [Ho] <;> iassumption
  iintro ⟨A1, B1, -, Ho, HO⟩
  iapply (pair_step xs ws K c s 2 l hl) $$ [A2 B2 Ho HO]
  · isplitr; · iexact He
    isplitl [A2]; · iexact A2
    isplitl [B2]; · iexact B2
    isplitl [Ho] <;> iassumption
  iintro ⟨A2, B2, -, Ho, HO⟩
  iapply (pair_step xs ws K c s 3 l hl) $$ [A3 B3 Ho HO]
  · isplitr; · iexact He
    isplitl [A3]; · iexact A3
    isplitl [B3]; · iexact B3
    isplitl [Ho] <;> iassumption
  iintro ⟨A3, B3, -, Ho, HO⟩
  iapply Hk
  isplitl [A0 A1 A2 A3 B0 B1 B2 B3]
  · isplitl [A0 A1 A2 A3]
    · isplitl [A0]; · iexact A0
      isplitl [A1]; · iexact A1
      isplitl [A2] <;> iassumption
    · isplitl [B0]; · iexact B0
      isplitl [B1]; · iexact B1
      isplitl [B2] <;> iassumption
  isplitr; · iexact Hn
  isplitl [Ho] <;> iassumption

/-- What the last hop stores: the scaled sum through the activation. -/
def fin (q : F .f32) : Bool → Fin 4 → S512x1024.Idx → Elt F .f32 := fun d t => k0_pay2 q (val xs ws d 7 c t)

/-- Column block `t` of both halves stored. -/
def upd (q : F .f32) (g : Bool → Fin 4 → S512x1024.Idx → Elt F .f32) (t : Fin 4) : Bool → Fin 4 → S512x1024.Idx → Elt F .f32 :=
  setBlk (setBlk g false t (fin xs ws c q false t)) true t (fin xs ws c q true t)

/-- The end of the last copy of column block `t`, in both rings, and what is stored of it. -/
theorem last_step (q : F .f32) (t : Fin 4) {g : Bool → Fin 4 → S512x1024.Idx → Elt F .f32}
    (h0 : g false t = cols t (prodAt xs ws false 6 c)) (h1 : g true t = cols t (prodAt xs ws true 6 c)) {k : Body F} :
    iprop(env xs ws K ∗ flying (F := F) c 6 false t ∗ flying (F := F) c 6 true t ∗ outIs c g ∗ ow c [])
      ⊢ iprop((landedAt xs ws c 6 false t ∗ landedAt xs ws c 6 true t
          ∗ outIs c (upd xs ws c q g t) ∗ ow c [] -∗ run c k Q)
        -∗ run c (finish 6 false t fun a => emit q false t a <| finish 6 true t fun a => emit q true t a k) Q) := by
  unfold landedAt
  iintro ⟨#He, F0, F1, Ho, HO⟩ Hk
  iapply (finish_step xs ws K c 6 false t h0 [] (fun e he => absurd he List.not_mem_nil)) $$ [F0 Ho HO]
  · isplitr; · iexact He
    isplitl [F0]; · iexact F0
    isplitl [Ho] <;> iassumption
  iintro ⟨P0, Z0, -, Ho, HO⟩
  iapply (emit_step c q false t) $$ Ho; iintro Ho
  iapply (finish_step xs ws K c 6 true t (g := setBlk g false t (k0_pay2 q (val xs ws false 7 c t))) h1 [] (fun e he => absurd he List.not_mem_nil)) $$ [F1 Ho HO]
  · isplitr; · iexact He
    isplitl [F1]; · iexact F1
    isplitl [Ho]; · iexact Ho
    iexact HO
  iintro ⟨P1, Z1, -, Ho, HO⟩
  iapply (emit_step c q true t) $$ Ho; iintro Ho
  iapply Hk
  isplitl [P0 Z0]; · isplitl [P0] <;> iassumption
  isplitl [P1 Z1]; · isplitl [P1] <;> iassumption
  isplitl [Ho]; · iexact Ho
  iexact HO

theorem fin_eq (q : F .f32) (g : Bool → Fin 4 → S512x1024.Idx → Elt F .f32) :
    upd xs ws c q (upd xs ws c q (upd xs ws c q (upd xs ws c q g 0) 1) 2) 3 = fin xs ws c q := by
  funext d t; cases d <;> fin_cases t <;> rfl

theorem lasts_step (q : F .f32) {k : Body F} :
    iprop(env xs ws K ∗ eight (flying (F := F) c 6) ∗ outIs c (parts xs ws c 6) ∗ ow c [])
      ⊢ iprop((eight (landedAt xs ws c 6) ∗ outIs c (fin xs ws c q) ∗ ow c [] -∗ run c k Q) -∗ run c (lasts q k) Q) := by
  unfold lasts eight four
  iintro ⟨#He, ⟨⟨A0, A1, A2, A3⟩, B0, B1, B2, B3⟩, Ho, HO⟩ Hk
  iapply (last_step xs ws K c q 0 (g := parts xs ws c 6) rfl rfl) $$ [A0 B0 Ho HO]
  · isplitr; · iexact He
    isplitl [A0]; · iexact A0
    isplitl [B0]; · iexact B0
    isplitl [Ho] <;> iassumption
  iintro ⟨A0, B0, Ho, HO⟩
  iapply (last_step xs ws K c q 1 (g := upd xs ws c q (parts xs ws c 6) 0) rfl rfl) $$ [A1 B1 Ho HO]
  · isplitr; · iexact He
    isplitl [A1]; · iexact A1
    isplitl [B1]; · iexact B1
    isplitl [Ho] <;> iassumption
  iintro ⟨A1, B1, Ho, HO⟩
  iapply (last_step xs ws K c q 2 (g := upd xs ws c q (upd xs ws c q (parts xs ws c 6) 0) 1) rfl rfl) $$ [A2 B2 Ho HO]
  · isplitr; · iexact He
    isplitl [A2]; · iexact A2
    isplitl [B2]; · iexact B2
    isplitl [Ho] <;> iassumption
  iintro ⟨A2, B2, Ho, HO⟩
  iapply (last_step xs ws K c q 3 (g := upd xs ws c q (upd xs ws c q (upd xs ws c q (parts xs ws c 6) 0) 1) 2) rfl rfl) $$ [A3 B3 Ho HO]
  · isplitr; · iexact He
    isplitl [A3]; · iexact A3
    isplitl [B3]; · iexact B3
    isplitl [Ho] <;> iassumption
  iintro ⟨A3, B3, Ho, HO⟩
  rw [fin_eq]
  iapply Hk
  isplitl [A0 A1 A2 A3 B0 B1 B2 B3]
  · isplitl [A0 A1 A2 A3]
    · isplitl [A0]; · iexact A0
      isplitl [A1]; · iexact A1
      isplitl [A2] <;> iassumption
    · isplitl [B0]; · iexact B0
      isplitl [B1]; · iexact B1
      isplitl [B2] <;> iassumption
  isplitl [Ho] <;> iassumption

/-! ## The state between the hops -/

/-- The tokens of hop `s`, and of the hops from `n` on. -/
def hopTs (s : Fin 7) : sProp 𝕄 := iprop(barT (F := F) c s.val ∗ eight (hopT (F := F) c s))
def restTs (n : ℕ) : sProp 𝕄 := bigSepL ((List.finRange 7).filter (n ≤ ·.val)) (hopTs (F := F) c)
theorem restTs_eq (s : Fin 7) : restTs (F := F) c s.val = iprop(hopTs (F := F) c s ∗ restTs (F := F) c (s.val + 1)) := by
  unfold restTs
  rw [show (List.finRange 7).filter (s.val ≤ ·.val) = s :: (List.finRange 7).filter (s.val + 1 ≤ ·.val) by revert s; decide, bigSepL_cons']

/-- The receive cells of the hops before `n`, closed. -/
def closed : ℕ → sProp 𝕄
  | 0 => iprop(emp)
  | n + 1 => iprop(closed n ∗ eight fun d t => semVal (cell c (recvK d (Fin.ofNat 7 n) t)) 0)
theorem closed_next (s : Fin 7) :
    closed (F := F) c (s.val + 1) = iprop(closed (F := F) c s.val ∗ eight fun d t => semVal (cell c (recvK d s t)) 0) := by
  show iprop(closed (F := F) c s.val ∗ eight fun d t => semVal (cell c (recvK d (Fin.ofNat 7 s.val) t)) 0) = _
  rw [show Fin.ofNat 7 s.val = s from Fin.ext (Nat.mod_eq_of_lt s.isLt)]

/-- Before hop `n`; and in hop `s`, after its barrier. -/
def before (n : ℕ) : sProp 𝕄 :=
  iprop(eight (resting xs ws c n) ∗ restTs (F := F) c n ∗ closed (F := F) c n ∗ atPos ER (cell c barK) n ∅ 0 ∗ nbrs (F := F) c n ∗ ow c (due n)
    ∗ opsIs c xs ws ∗ ∃ g, outIs c g)
def within (s : Fin 7) : sProp 𝕄 :=
  iprop(eight (ready xs ws c s) ∗ eight (hopT (F := F) c s) ∗ restTs (F := F) c (s.val + 1) ∗ closed (F := F) c s.val
    ∗ (atPos ER (cell c barK) (s.val + 1) ∅ 0 ∗ reached ER (cell c barK) (s.val + 1)) ∗ ow c (sends s ++ due (s.val + 1))
    ∗ opsIs c xs ws ∗ ∃ g, outIs c g)

theorem mem_after (s : Fin 7) : ∀ e ∈ due (s.val + 1), 2 * s.val + 3 ≤ e.2.2.1 ∧ e.2.2.1 < 16 := fun e he => by
  have := mem_due he; omega
theorem mem_mid (s : Fin 7) : ∀ e ∈ sends s ++ due (s.val + 1), 2 * s.val + 2 ≤ e.2.2.1 ∧ e.2.2.1 < 16 := fun e he => by
  rcases List.mem_append.mp he with he | he
  · have := mem_sends he; have := s.isLt; omega
  · have := mem_due he; omega

theorem to_within (s : Fin 7) {k : Body F} :
    iprop(env xs ws K ∗ before xs ws c s.val) ⊢ iprop((within xs ws c s -∗ run c k Q) -∗ run c (barrier c k) Q) := by
  unfold before within
  rw [restTs_eq, due_eq]
  unfold hopTs
  iintro ⟨#He, HR, ⟨⟨HB, HT⟩, Hrest⟩, Hcl, Hat, Hn, HO, Hx, Ho⟩ Hk
  ihave HR := (show eight (resting xs ws c s.val) ⊢ _ from eight_sep _ _) $$ HR
  icases HR with ⟨Hh, HR⟩
  ihave HR := (eight_sep (fun d t => free (F := F) c d (slot (s.val + 1)) t) (fun d t => sendsAt (F := F) c s.val d t)) $$ HR
  icases HR with ⟨Hf, Hs⟩
  iapply (barrier_step xs ws K c s _ (mem_mid s)) $$ [Hn HB Hat Hf HO]
  · isplitr; · iexact He
    isplitl [Hn]; · iexact Hn
    isplitl [HB]; · iexact HB
    isplitl [Hat]; · iexact Hat
    isplitl [Hf]; · iexact Hf
    iexact HO
  iintro ⟨Hat, #Hr, Hf, HO⟩
  iapply Hk
  isplitl [Hh Hf Hs]
  · iapply (show _ ⊢ eight (ready xs ws c s) from sep_eight _ _)
    isplitl [Hh]; · iexact Hh
    iapply (sep_eight (fun d t => free (F := F) (peer c d) d (slot (s.val + 1)) t) (fun d t => sendsAt (F := F) c s.val d t))
    isplitl [Hf] <;> iassumption
  isplitl [HT]; · iexact HT
  isplitl [Hrest]; · iexact Hrest
  isplitl [Hcl]; · iexact Hcl
  isplitl [Hat]
  · isplitl [Hat]; · iexact Hat
    iexact Hr
  isplitl [HO]; · iexact HO
  isplitl [Hx] <;> iassumption

theorem hop_step (s : Fin 7) {k : Body F} :
    iprop(env xs ws K ∗ within xs ws c s) ⊢ iprop((before xs ws c (s.val + 1) -∗ run c k Q) -∗ run c (hop c s k) Q) := by
  unfold before within hop
  iintro ⟨#He, HR, HT, Hrest, Hcl, ⟨Hat, #Hr⟩, HO, Hx, %g, Ho⟩ Hk
  iapply (begin_step xs ws K c s _ g) $$ [HR HT HO Hx Ho]
  · isplitr; · iexact He
    isplitr; · iexact Hr
    isplitl [HR]; · iexact HR
    isplitl [HT]; · iexact HT
    isplitl [HO]; · iexact HO
    isplitl [Hx] <;> iassumption
  iintro ⟨HF, HO, Hx, Ho⟩
  iapply (ends_step xs ws K c s _ (mem_after s)) $$ [HF HO Ho]
  · isplitr; · iexact He
    isplitl [HF]; · iexact HF
    isplitl [Ho] <;> iassumption
  iintro ⟨HL, Hn, Ho, HO⟩
  ihave HL := (show eight (landedAt xs ws c s) ⊢ _ from eight_sep _ _) $$ HL
  icases HL with ⟨HL, Hz⟩
  iapply Hk
  rw [closed_next]
  isplitl [HL]; · iexact HL
  isplitl [Hrest]; · iexact Hrest
  isplitl [Hcl Hz]
  · isplitl [Hcl] <;> iassumption
  isplitl [Hat]; · iexact Hat
  isplitl [Hn]; · iexact Hn
  isplitl [HO]; · iexact HO
  isplitl [Hx]; · iexact Hx
  iexists _; iexact Ho

/-- After the last hop. -/
def after (q : F .f32) : sProp 𝕄 :=
  iprop(eight (resting xs ws c 7) ∗ closed (F := F) c 7 ∗ atPos ER (cell c barK) 7 ∅ 0 ∗ ow c [] ∗ opsIs c xs ws ∗ outIs c (fin xs ws c q))

theorem hop_last (q : F .f32) {k : Body F} :
    iprop(env xs ws K ∗ within xs ws c 6) ⊢ iprop((after xs ws c q -∗ run c k Q) -∗ run c (begin_ c 6 <| lasts q k) Q) := by
  unfold after within
  iintro ⟨#He, HR, HT, -, Hcl, ⟨Hat, #Hr⟩, HO, Hx, %g, Ho⟩ Hk
  iapply (begin_step xs ws K c 6 _ g) $$ [HR HT HO Hx Ho]
  · isplitr; · iexact He
    isplitr; · iexact Hr
    isplitl [HR]; · iexact HR
    isplitl [HT]; · iexact HT
    isplitl [HO]; · iexact HO
    isplitl [Hx] <;> iassumption
  iintro ⟨HF, HO, Hx, Ho⟩
  iapply (lasts_step xs ws K c q) $$ [HF HO Ho]
  · isplitr; · iexact He
    isplitl [HF]; · iexact HF
    isplitl [Ho]; · iexact Ho
    iexact HO
  iintro ⟨HL, Ho, HO⟩
  ihave HL := (show eight (landedAt xs ws c 6) ⊢ _ from eight_sep _ _) $$ HL
  icases HL with ⟨HL, Hz⟩
  iapply Hk
  rw [show closed (F := F) c 7 = _ from closed_next c 6]
  isplitl [HL]; · iexact HL
  isplitl [Hcl Hz]
  · isplitl [Hcl] <;> iassumption
  isplitl [Hat]; · iexact Hat
  isplitl [HO]; · iexact HO
  isplitl [Hx] <;> iassumption

end Cert.KernelIdealProof

end
-- ==== Proof.KernelIdeal.Whole.lean ====
/-
# The whole body

How the two-slot buffers come apart and together again, the seeds, the scales, and the body from its start to its end.
-/
module

public import proofs.«01_k».proof.Proof.KernelIdeal.Walk
public import Idealize.ShloMosaic.Lib.Ring

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → S4096x512.Idx → Elt F .i8) (ws : Dev nD → S512x8192.Idx → Elt F .i8)
variable (K : Dev nD × Ki → ℕ) (c : Dev nD) {Q : Post F}

/-! ## The rectangles of the two-slot buffers -/

theorem inb_slot (b : Fin 2) : ∀ a, (![b.val, 0, 0] : Fin 3 → Nat) a + S1x512x4096.size a ≤ S2x512x4096.size a := by
  revert b; decide
/-- A whole slot. -/
abbrev rSlot (b : Fin 2) : Rect S2x512x4096 := Rect.unit (s := S2x512x4096) ![b.val, 0, 0] S1x512x4096.size (inb_slot b)

theorem slot_disjoint (b b' : Fin 2) (h : b ≠ b') : Disjoint (rSlot b).set (rSlot b').set := by
  refine Rect.unit_disjoint (0 : Fin 3) ?_
  revert b b' h; decide
theorem slot_cover : (Finset.univ : Finset (Fin 2)).biUnion (fun b => (rSlot b).set) = Finset.univ := by
  ext i
  refine ⟨fun _ => Finset.mem_univ _, fun _ => Finset.mem_biUnion.mpr ⟨⟨(i 0).val, (i 0).isLt⟩, Finset.mem_univ _, Rect.mem_set_unit.mpr fun a => ?_⟩⟩
  have h1 : (i 1).val < 512 := (i 1).isLt
  have h2 : (i 2).val < 4096 := (i 2).isLt
  fin_cases a
  · exact ⟨le_rfl, Nat.lt_succ_self _⟩
  · exact ⟨Nat.zero_le _, show (i 1).val < 0 + 512 by omega⟩
  · exact ⟨Nat.zero_le _, show (i 2).val < 0 + 4096 by omega⟩

theorem scol_disjoint (t t' : Fin 4) (h : t ≠ t') : Disjoint (rSeedCol t).set (rSeedCol t').set := by
  refine Rect.unit_disjoint (2 : Fin 3) ?_
  revert t t' h; decide
theorem scol_cover : (Finset.univ : Finset (Fin 4)).biUnion (fun t => (rSeedCol t).set) = Finset.univ := by
  ext i
  have h0 : (i 0).val < 1 := (i 0).isLt
  have h1 : (i 1).val < 512 := (i 1).isLt
  have h2 : (i 2).val < 4096 := (i 2).isLt
  refine ⟨fun _ => Finset.mem_univ _, fun _ => Finset.mem_biUnion.mpr ⟨⟨(i 2).val / 1024, by omega⟩, Finset.mem_univ _, Rect.mem_set_unit.mpr fun a => ?_⟩⟩
  fin_cases a
  · exact ⟨Nat.zero_le _, show (i 0).val < 0 + 1 by omega⟩
  · exact ⟨Nat.zero_le _, show (i 1).val < 0 + 512 by omega⟩
  · exact ⟨show 1024 * ((i 2).val / 1024) ≤ (i 2).val by omega, show (i 2).val < 1024 * ((i 2).val / 1024) + 1024 by omega⟩

theorem sub_disjoint (p p' : Fin 2 × Fin 4) (h : p ≠ p') : Disjoint (rSub p.1 p.2).set (rSub p'.1 p'.2).set := by
  obtain ⟨b, t⟩ := p; obtain ⟨b', t'⟩ := p'
  by_cases hb : b = b'
  · subst hb
    refine Rect.unit_disjoint (2 : Fin 3) ?_
    have ht : t.val ≠ t'.val := fun e => h (by rw [Fin.ext e])
    show 1024 * t.val + 1024 ≤ 1024 * t'.val ∨ 1024 * t'.val + 1024 ≤ 1024 * t.val
    omega
  · refine Rect.unit_disjoint (0 : Fin 3) ?_
    have hb' : b.val ≠ b'.val := fun e => hb (Fin.ext e)
    show b.val + 1 ≤ b'.val ∨ b'.val + 1 ≤ b.val
    omega
theorem sub_cover : (Finset.univ : Finset (Fin 2 × Fin 4)).biUnion (fun p => (rSub p.1 p.2).set) = Finset.univ := by
  ext i
  have h1 : (i 1).val < 512 := (i 1).isLt
  have h2 : (i 2).val < 4096 := (i 2).isLt
  refine ⟨fun _ => Finset.mem_univ _, fun _ => Finset.mem_biUnion.mpr
    ⟨(⟨(i 0).val, (i 0).isLt⟩, ⟨(i 2).val / 1024, by omega⟩), Finset.mem_univ _, Rect.mem_set_unit.mpr fun a => ?_⟩⟩
  fin_cases a
  · exact ⟨le_rfl, Nat.lt_succ_self _⟩
  · exact ⟨Nat.zero_le _, show (i 1).val < 0 + 512 by omega⟩
  · exact ⟨show 1024 * ((i 2).val / 1024) ≤ (i 2).val by omega, show (i 2).val < 1024 * ((i 2).val / 1024) + 1024 by omega⟩

theorem sub_emb (b : Fin 2) (t : Fin 4) (i : S1x512x1024.Idx) : (rSlot b).emb ((rSeedCol t).emb i) = (rSub b t).emb i := by
  funext a; refine Fin.ext ?_
  fin_cases a
  · show b.val + 1 * (0 + 1 * (i 0).val) = b.val + 1 * (i 0).val; omega
  · show 0 + 1 * (0 + 1 * (i 1).val) = 0 + 1 * (i 1).val; omega
  · show 0 + 1 * (1024 * t.val + 1 * (i 2).val) = 1024 * t.val + 1 * (i 2).val; omega

/-! ## A slot as a whole and in column blocks -/

/-- A whole slot of a ring's buffer. -/
abbrev slotM (d : Bool) (b : Fin 2) : Memref sig .tc .vmem S1x512x4096 .i32 := (cM d).slice (rSlot b) (fun _ => rfl)

/-- A column block of a whole slot is the column block of the buffer. -/
theorem block_set (d : Bool) (b : Fin 2) (t : Fin 4) :
    ((slotM d b).slice (rSeedCol t) (fun _ => rfl)).view.set = (sub d b t).view.set := by
  rw [sub_set]
  show Finset.univ.map _ = Finset.univ.map _
  refine congrArg (fun e => Finset.univ.map e) (Function.Embedding.ext fun i => ?_)
  show (cM d).view.emb ((rSlot b).emb ((rSeedCol t).emb i)) = (cM d).view.emb ((rSub b t).emb i)
  rw [sub_emb]

theorem to_piece (d : Bool) (b : Fin 2) (t : Fin 4) (X : S1x512x1024.Idx → Elt F .i32) :
    (owns (c : Thread nD τ) ((slotM d b).slice (rSeedCol t) (fun _ => rfl)) fullShare X : sProp 𝕄)
      ⊢ has c d b t (shapeCast S512x1024 X shapeCasts_S1x512x1024_S512x1024) := by
  rw [has_eq]
  unfold owns
  iintro ⟨%f, %hf, H⟩
  iexists f
  isplitr
  · ipureintro
    subst hf
    refine (read_sub d b t f).trans (congrArg (fun v => shapeCast S512x1024 v shapeCasts_S1x512x1024_S512x1024) (funext fun i => ?_))
    show (cM d).view.read (Elt F) f ((rSub b t).emb i) = (cM d).view.read (Elt F) f ((rSlot b).emb ((rSeedCol t).emb i))
    rw [sub_emb]
  rw [← block_set]
  iexact H

theorem bigSep_two (Φ : Fin 2 → sProp 𝕄) : bigSep Finset.univ Φ = iprop(Φ 0 ∗ Φ 1) :=
  bigSep_univ_eq_bigSepL [0, 1] (by decide) (by decide) Φ
theorem bigSep_four (Φ : Fin 4 → sProp 𝕄) : bigSep Finset.univ Φ = four Φ :=
  bigSep_univ_eq_bigSepL [0, 1, 2, 3] (by decide) (by decide) Φ
theorem bigSep_eight (Φ : Fin 2 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

/-- A slot comes apart into its column blocks. -/
theorem slot_split (d : Bool) (b : Fin 2) (X : S1x512x4096.Idx → Elt F .i32) :
    (owns (c : Thread nD τ) (slotM d b) fullShare X : sProp 𝕄)
      ⊢ four fun t => has c d b t (shapeCast S512x1024 (fun i : S1x512x1024.Idx => X ((rSeedCol t).emb i)) shapeCasts_S1x512x1024_S512x1024) := by
  iintro H
  ihave H := (owns_rects (c : Thread nD τ) (slotM d b) fullShare rSeedCol (fun _ _ => rfl) scol_disjoint scol_cover X) $$ H
  ihave H := (Entails.of_eq (bigSep_four _)) $$ H
  unfold four
  icases H with ⟨H0, H1, H2, H3⟩
  isplitl [H0]; · iapply (to_piece c d b 0); iexact H0
  isplitl [H1]; · iapply (to_piece c d b 1); iexact H1
  isplitl [H2]; · iapply (to_piece c d b 2); iexact H2
  iapply (to_piece c d b 3); iexact H3

theorem slot_free (d : Bool) (b : Fin 2) (X : S1x512x4096.Idx → Elt F .i32) :
    (owns (c : Thread nD τ) (slotM d b) fullShare X : sProp 𝕄) ⊢ four fun t => free (F := F) c d b t := by
  iintro H
  iapply (four_mono (f := fun t => has c d b t (shapeCast S512x1024 (fun i : S1x512x1024.Idx => X ((rSeedCol t).emb i)) shapeCasts_S1x512x1024_S512x1024))
    (fun t => show has c d b t _ ⊢ free (F := F) c d b t by unfold free; iintro H; iexists _; iexact H))
  iapply (slot_split c d b X); iexact H

/-! ## A buffer as a whole -/

/-- A ring's buffer of device `c`, holding anything. -/
def wholeBuf (d : Bool) : sProp 𝕄 := iprop(∃ f : (cM d).view.ty.Contents (Elt F), (cM d).view.loc (c : Thread nD τ) ↦{fullShare} f)

theorem cM_set (d : Bool) : (cM d).view.set = Finset.univ := by
  cases d
  · exact View.set_whole cc0_scratch0
  · exact View.set_whole cc0_scratch1

/-- It comes apart into slot 0 and the column blocks of slot 1. -/
theorem buf_split (d : Bool) :
    wholeBuf (F := F) c d ⊢ iprop((∃ X, owns (c : Thread nD τ) (slotM d 0) fullShare X) ∗ four fun t => free (F := F) c d 1 t) := by
  unfold wholeBuf
  iintro ⟨%f, H⟩
  ihave H := (show ((cM d).view.loc (c : Thread nD τ) ↦{fullShare} f : sProp 𝕄) ⊢ owns (c : Thread nD τ) (cM d) fullShare ((cM d).view.read (Elt F) f) by
    unfold owns
    rw [cM_set]
    iintro H
    iexists f
    isplitr; · ipureintro; rfl
    iexact H) $$ H
  ihave H := (owns_rects (c : Thread nD τ) (cM d) fullShare rSlot (fun _ _ => rfl) slot_disjoint slot_cover _) $$ H
  ihave H := (Entails.of_eq (bigSep_two _)) $$ H
  icases H with ⟨H0, H1⟩
  isplitl [H0]; · iexists _; iexact H0
  iapply (slot_free c d 1); iexact H1

/-- The elements of a column block, among its buffer's. -/
def subSet (d : Bool) (p : Fin 2 × Fin 4) : Finset (cM d).view.ty.Idx := (sub d p.1 p.2).view.set
theorem sub_set_disjoint (d : Bool) (p p' : Fin 2 × Fin 4) (h : p ≠ p') : Disjoint (subSet d p) (subSet d p') := by
  unfold subSet
  rw [sub_set, sub_set]
  exact View.disjoint_slice (sub_disjoint p p' h)
theorem sub_set_cover (d : Bool) : (Finset.univ : Finset (Fin 2 × Fin 4)).biUnion (subSet d) = Finset.univ := by
  cases d
  · exact (Finset.biUnion_congr rfl fun p _ => (sub_set false p.1 p.2).trans (View.set_slice_whole cc0_scratch0 (rSub p.1 p.2))).trans sub_cover
  · exact (Finset.biUnion_congr rfl fun p _ => (sub_set true p.1 p.2).trans (View.set_slice_whole cc0_scratch1 (rSub p.1 p.2))).trans sub_cover

theorem free_pts (d : Bool) (b : Fin 2) (t : Fin 4) :
    free (F := F) c d b t ⊢ iprop(∃ f : (cM d).view.ty.Contents (Elt F), (cM d).view.loc (c : Thread nD τ) ↦[subSet d (b, t)]{fullShare} f) := by
  unfold free
  iintro ⟨%v, H⟩
  ihave H := (Entails.of_eq (has_eq c d b t v)) $$ H
  icases H with ⟨%f, -, H⟩
  iexists f; iexact H

/-- All column blocks come together to the whole buffer. -/
theorem buf_join (d : Bool) :
    iprop((four fun t => free (F := F) c d 0 t) ∗ four fun t => free (F := F) c d 1 t) ⊢ wholeBuf (F := F) c d := by
  unfold wholeBuf four
  iintro ⟨⟨A0, A1, A2, A3⟩, B0, B1, B2, B3⟩
  iapply (Ring.pointsTo_blocks_join_exists (Val := Elt F) (ℓ := (cM d).view.loc (c : Thread nD τ)) (subSet d)
    (sub_set_disjoint d) (sub_set_cover d) (fun _ => Classical.arbitrary _))
  iapply (Entails.of_eq (bigSep_eight _).symm)
  isplitl [A0]; · iapply (free_pts c d 0 0); iexact A0
  isplitl [A1]; · iapply (free_pts c d 0 1); iexact A1
  isplitl [A2]; · iapply (free_pts c d 0 2); iexact A2
  isplitl [A3]; · iapply (free_pts c d 0 3); iexact A3
  isplitl [B0]; · iapply (free_pts c d 1 0); iexact B0
  isplitl [B1]; · iapply (free_pts c d 1 1); iexact B1
  isplitl [B2]; · iapply (free_pts c d 1 2); iexact B2
  iapply (free_pts c d 1 3); iexact B3

end Cert.KernelIdealProof

end
-- ==== Proof.KernelIdeal.Body.lean ====
/-
# The body from its start to its end

The seeds and the scales before the hops, the closing of the cells after them, and the body as a whole.
-/
module

public import proofs.«01_k».proof.Proof.KernelIdeal.Whole

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → S4096x512.Idx → Elt F .i8) (ws : Dev nD → S512x8192.Idx → Elt F .i8)
variable (K : Dev nD × Ki → ℕ) (c : Dev nD) {Q : Post F}

/-! ## The seeds -/

theorem slot_eq (d : Bool) (b : Fin 2) (X : S1x512x4096.Idx → Elt F .i32) :
    (owns (c : Thread nD τ) (slotM d b) fullShare X : sProp 𝕄) = iprop(∃ f : (cM d).view.ty.Contents (Elt F), ⌜(slotM d b).view.read (Elt F) f = X⌝
      ∗ ((cM d).view.loc (c : Thread nD τ) ↦[(slotM d b).view.set]{fullShare} f)) := rfl

/-- The partial product that a ring starts from, stored in its slot `0`. -/
theorem seed_step (d : Bool) {k : Body F} :
    iprop(opsIs c xs ws ∗ ∃ X, owns (c : Thread nD τ) (slotM d 0) fullShare X)
      ⊢ iprop((opsIs c xs ws ∗ (four fun t => has c d (slot 0) t (val xs ws d 0 c t)) -∗ run c k Q) -∗ run c (seed c d k) Q) := by
  unfold seed opsIs
  simp only [slot_eq]
  iintro ⟨⟨Hx, Hw⟩, %X, %f, %hf, H⟩ Hk
  iapply (wp_load 𝒱₀ (c : Thread nD τ) none Set.univ (m := xM) (r := (rXSeed c d).toLoadRect) (Finset.subset_univ _)) $$ Hx; iintro Hx
  iapply (wp_load 𝒱₀ (c : Thread nD τ) none Set.univ (m := wM) (r := (rHalf d).toLoadRect) (Finset.subset_univ _)) $$ Hw; iintro Hw
  iapply (wp_load 𝒱₀ (c : Thread nD τ) none Set.univ (m := cM d) (r := rSeed.toLoadRect) (S := (slotM d 0).view.set) (f := f)
    (View.set_slice (cM d).view (rSlot 0)).symm.subset) $$ H; iintro H
  iapply (wp_store 𝒱₀ (c : Thread nD τ) none Set.univ (m := cM d) (r := rSeed) (Mk := Finset.univ) (S := (slotM d 0).view.set) (f := f)
    (Finset.Subset.refl _)) $$ H; iintro H
  iapply Hk
  isplitl [Hx Hw]; · isplitl [Hx] <;> iassumption
  iapply (show _ ⊢ (four fun t => has c d (slot 0) t (val xs ws d 0 c t)) from slot_split c d 0 (seedAt xs ws d c))
  rw [slot_eq]
  iexists _
  isplitr
  swap; · iexact H
  ipureintro
  exact View.read_write_univ (v := (cM d).access (rSlot 0)) (Val := Elt F) f (seedAt xs ws d c)

/-! ## The scales -/

/-- The staged scales of device `c`. -/
def scalesIs (a b : S1.Idx → Elt F .f32) : sProp 𝕄 :=
  iprop((((c : Thread nD τ).loc cc0_stg2_0) ↦{fullShare} (a : Buf (Elt F) ((c : Thread nD τ).loc cc0_stg2_0)))
    ∗ (((c : Thread nD τ).loc cc0_stg3_0) ↦{fullShare} (b : Buf (Elt F) ((c : Thread nD τ).loc cc0_stg3_0))))

/-- The product of the two scales. -/
def scaleOf (a b : S1.Idx → Elt F .f32) : F .f32 :=
  k0_pay5 (aM.view.readAt (Elt F) (Rect.unit (s := S1) ![0] S1.size inb_S1_S1_0).toLoadRect a (Shape.Idx.first (numel1_S1.symm ▸ Nat.one_pos)))
    (bM.view.readAt (Elt F) (Rect.unit (s := S1) ![0] S1.size inb_S1_S1_0).toLoadRect b (Shape.Idx.first (numel1_S1.symm ▸ Nat.one_pos)))

theorem scale_step (a b : S1.Idx → Elt F .f32) {k : F .f32 → Body F} :
    scalesIs c a b ⊢ iprop((scalesIs c a b -∗ run c (k (scaleOf a b)) Q) -∗ run c (scale k) Q) := by
  unfold scale scalesIs
  iintro ⟨Ha, Hb⟩ Hk
  iapply (wp_load 𝒱₀ (c : Thread nD τ) none Set.univ (m := aM) (r := (Rect.unit (s := S1) ![0] S1.size inb_S1_S1_0).toLoadRect) (Finset.subset_univ _)) $$ Ha; iintro Ha
  iapply (wp_load 𝒱₀ (c : Thread nD τ) none Set.univ (m := bM) (r := (Rect.unit (s := S1) ![0] S1.size inb_S1_S1_0).toLoadRect) (Finset.subset_univ _)) $$ Hb; iintro Hb
  iapply Hk
  isplitl [Ha] <;> iassumption

/-! ## Closing the cells -/

theorem bigSep_two_bool (Φ : Bool → sProp 𝕄) : bigSep Finset.univ Φ = iprop(Φ false ∗ Φ true) :=
  bigSep_univ_eq_bigSepL [false, true] (by decide) (by decide) Φ
theorem eight_eq (f : Bool → Fin 4 → sProp 𝕄) : eight f = bigSep Finset.univ fun d => bigSep Finset.univ fun t => f d t := by
  rw [bigSep_two_bool, bigSep_four, bigSep_four]; rfl

/-- A family over the send cells, slot by slot; and one over the receive cells, hop by hop. -/
theorem over_sends (Ψ : Bool → Fin 2 → Fin 4 → sProp 𝕄) :
    (bigSep Finset.univ fun p : Bool × Fin 2 × Fin 4 => Ψ p.1 p.2.1 p.2.2)
      = iprop((eight fun d t => Ψ d 0 t) ∗ eight fun d t => Ψ d 1 t) := by
  rw [bigSep_univ_prod, eight_eq, eight_eq, ← bigSep_sep']
  refine bigSep_congr fun d _ => ?_
  rw [bigSep_univ_prod, bigSep_two]
theorem over_recvs (Ψ : Bool → Fin 7 → Fin 4 → sProp 𝕄) :
    (bigSep Finset.univ fun p : Bool × Fin 7 × Fin 4 => Ψ p.1 p.2.1 p.2.2) = bigSep Finset.univ fun s : Fin 7 => eight fun d t => Ψ d s t := by
  rw [bigSep_univ_prod, bigSep_congr fun s _ => eight_eq fun d t => Ψ d s t,
    bigSep_univ_comm fun (s : Fin 7) (d : Bool) => bigSep Finset.univ fun t : Fin 4 => Ψ d s t]
  exact bigSep_congr fun d _ => bigSep_univ_prod fun p : Fin 7 × Fin 4 => Ψ d p.1 p.2

theorem eight_update {R : sProp 𝕄} [BI.Persistent R] {f g : Bool → Fin 4 → sProp 𝕄} (h : ∀ d t, iprop(R ∗ f d t) ⊢ |={Set.univ}=> g d t) :
    iprop(R ∗ eight f) ⊢ |={Set.univ}=> eight g := by
  unfold eight four
  iintro ⟨#HR, ⟨A0, A1, A2, A3⟩, B0, B1, B2, B3⟩
  imod (h false 0) $$ [A0] with A0; · isplitr; (iexact HR); iexact A0
  imod (h false 1) $$ [A1] with A1; · isplitr; (iexact HR); iexact A1
  imod (h false 2) $$ [A2] with A2; · isplitr; (iexact HR); iexact A2
  imod (h false 3) $$ [A3] with A3; · isplitr; (iexact HR); iexact A3
  imod (h true 0) $$ [B0] with B0; · isplitr; (iexact HR); iexact B0
  imod (h true 1) $$ [B1] with B1; · isplitr; (iexact HR); iexact B1
  imod (h true 2) $$ [B2] with B2; · isplitr; (iexact HR); iexact B2
  imod (h true 3) $$ [B3] with B3; · isplitr; (iexact HR); iexact B3
  imodintro
  isplitl [A0 A1 A2 A3]
  · isplitl [A0]; · iexact A0
    isplitl [A1]; · iexact A1
    isplitl [A2] <;> iassumption
  · isplitl [B0]; · iexact B0
    isplitl [B1]; · iexact B1
    isplitl [B2] <;> iassumption

/-- A column block after the last hop: both its slots, and its send cells closed. -/
def rested (d : Bool) (t : Fin 4) : sProp 𝕄 :=
  iprop((free (F := F) c d 0 t ∗ free (F := F) c d 1 t) ∗ semVal (cell c (sendK d 0 t)) 0 ∗ semVal (cell c (sendK d 1 t)) 0)

theorem rest_close (d : Bool) (t : Fin 4) : iprop(records xs ws K ∗ resting xs ws c 7 d t) ⊢ |={Set.univ}=> rested (F := F) c d t := by
  unfold resting sendsAt sendAt rested
  rw [show slot 7 = 1 from rfl, show slot (7 + 1) = 0 from rfl]
  iintro ⟨#HI, Hh, Hf, ⟨H1, -⟩, H0, -⟩
  imod (Rounds.cell_close ER (sched xs ws) (Set.mem_univ (K (c, sendK d 0 t))) (fun h => h) (R := 4)
    (duties_over xs ws c (sendK d 0 t))) $$ [H0] with Hz0
  · isplitr; · iapply (inv_at xs ws K c (sendK d 0 t)); iexact HI
    iexact H0
  imod (Rounds.cell_close ER (sched xs ws) (Set.mem_univ (K (c, sendK d 1 t))) (fun h => h) (R := 3)
    (duties_over xs ws c (sendK d 1 t))) $$ [H1] with Hz1
  · isplitr; · iapply (inv_at xs ws K c (sendK d 1 t)); iexact HI
    iexact H1
  imodintro
  isplitl [Hh Hf]
  · isplitl [Hf]; · iexact Hf
    unfold free; iexists _; iexact Hh
  isplitl [Hz0] <;> iassumption

/-- Every DMA cell of device `c` at zero. -/
def ownZero : sProp 𝕄 := bigSep Finset.univ fun o : Own => semVal (cell c (.inr o)) 0

theorem closed_all : closed (F := F) c 7 ⊢ bigSep Finset.univ fun s : Fin 7 => eight fun d t => semVal (cell c (recvK d s t)) 0 := by
  rw [show closed (F := F) c 7 = _ from closed_next c 6, show closed (F := F) c (6 : Fin 7).val = _ from closed_next c 5,
    show closed (F := F) c (5 : Fin 7).val = _ from closed_next c 4, show closed (F := F) c (4 : Fin 7).val = _ from closed_next c 3,
    show closed (F := F) c (3 : Fin 7).val = _ from closed_next c 2, show closed (F := F) c (2 : Fin 7).val = _ from closed_next c 1,
    show closed (F := F) c (1 : Fin 7).val = _ from closed_next c 0]
  iintro ⟨⟨⟨⟨⟨⟨⟨-, H0⟩, H1⟩, H2⟩, H3⟩, H4⟩, H5⟩, H6⟩
  iapply (Entails.of_eq (show (iprop((eight fun d t => semVal (cell c (recvK d 0 t)) 0) ∗ (eight fun d t => semVal (cell c (recvK d 1 t)) 0)
      ∗ (eight fun d t => semVal (cell c (recvK d 2 t)) 0) ∗ (eight fun d t => semVal (cell c (recvK d 3 t)) 0)
      ∗ (eight fun d t => semVal (cell c (recvK d 4 t)) 0) ∗ (eight fun d t => semVal (cell c (recvK d 5 t)) 0)
      ∗ (eight fun d t => semVal (cell c (recvK d 6 t)) 0)) : sProp 𝕄) = _ from
    (bigSep_univ_eq_bigSepL [0, 1, 2, 3, 4, 5, 6] (by decide) (by decide) (fun s : Fin 7 => eight fun d t => semVal (cell c (recvK d s t)) 0)).symm))
  isplitl [H0]; · iexact H0
  isplitl [H1]; · iexact H1
  isplitl [H2]; · iexact H2
  isplitl [H3]; · iexact H3
  isplitl [H4]; · iexact H4
  isplitl [H5] <;> iassumption

theorem own_zero :
    iprop((eight fun d t => semVal (cell c (sendK d 0 t)) 0) ∗ (eight fun d t => semVal (cell c (sendK d 1 t)) 0) ∗ closed (F := F) c 7)
      ⊢ ownZero (F := F) c := by
  unfold ownZero
  iintro ⟨H0, H1, Hc⟩
  ihave Hc := (closed_all c) $$ Hc
  iapply (Entails.of_eq (show (iprop((bigSep Finset.univ fun p : Bool × Fin 2 × Fin 4 => semVal (cell c (sendK p.1 p.2.1 p.2.2)) 0)
      ∗ bigSep Finset.univ fun p : Bool × Fin 7 × Fin 4 => semVal (cell c (recvK p.1 p.2.1 p.2.2)) 0) : sProp 𝕄) = _ from
    (bigSep_univ_sum fun o : Own => (semVal (cell c (.inr o)) 0 : sProp 𝕄)).symm))
  isplitr [Hc]
  · iapply (Entails.of_eq (over_sends fun d b t => (semVal (cell c (sendK d b t)) 0 : sProp 𝕄)).symm)
    isplitl [H0] <;> iassumption
  · iapply (Entails.of_eq (over_recvs fun d s t => (semVal (cell c (recvK d s t)) 0 : sProp 𝕄)).symm)
    iexact Hc

theorem close_step :
    iprop(records xs ws K ∗ eight (resting xs ws c 7) ∗ closed (F := F) c 7 ∗ atPos ER (cell c barK) 7 ∅ 0)
      ⊢ |={Set.univ}=> iprop((wholeBuf (F := F) c false ∗ wholeBuf (F := F) c true) ∗ ownZero (F := F) c ∗ semVal (cell c barK) 0) := by
  iintro ⟨#HI, HR, Hc, Hb⟩
  imod (eight_update (rest_close xs ws K c)) $$ [HR] with HR
  · isplitr; · iexact HI
    iexact HR
  imod (Rounds.cell_close ER (sched xs ws) (Set.mem_univ (K (c, barK))) (fun h => h) (R := 7) (duties_over xs ws c barK)) $$ [Hb] with Hz
  · isplitr; · iapply (inv_at xs ws K c barK); iexact HI
    iexact Hb
  imodintro
  ihave HR := (show eight (rested (F := F) c) ⊢ _ from eight_sep _ _) $$ HR
  icases HR with ⟨Hf, Hs⟩
  ihave Hs := (eight_sep (fun d t => semVal (cell c (sendK d 0 t)) 0) (fun d t => semVal (cell c (sendK d 1 t)) 0)) $$ Hs
  icases Hs with ⟨H0, H1⟩
  ihave Hf := (eight_sep (fun d t => free (F := F) c d 0 t) (fun d t => free (F := F) c d 1 t)) $$ Hf
  unfold eight
  icases Hf with ⟨⟨A0, A1⟩, B0, B1⟩
  isplitl [A0 A1 B0 B1]
  · isplitl [A0 B0]
    · iapply (buf_join c false); isplitl [A0] <;> iassumption
    · iapply (buf_join c true); isplitl [A1] <;> iassumption
  isplitr [Hz]
  · iapply (own_zero c)
    unfold eight
    isplitl [H0]; · iexact H0
    isplitl [H1] <;> iassumption
  iexact Hz

/-! ## The result -/

/-- Where an element of the result is: its half, its column block, and its index there. -/
def outHalf (i : S512x8192.Idx) : Bool := decide (4096 ≤ (i 1).val)
def outCol (i : S512x8192.Idx) : Fin 4 := ⟨(i 1).val % 4096 / 1024, by omega⟩
def outIdx (i : S512x8192.Idx) : S512x1024.Idx
  | ⟨0, _⟩ => ⟨(i 0).val, (i 0).isLt⟩
  | ⟨1, _⟩ => ⟨(i 1).val % 1024, Nat.mod_lt _ (by decide)⟩
theorem out_at (i : S512x8192.Idx) : (rOut (outHalf i) (outCol i)).emb (outIdx i) = i := by
  have h1 : (i 1).val < 8192 := (i 1).isLt
  funext a; refine Fin.ext ?_
  fin_cases a
  · show 0 + 1 * (i 0).val = (i 0).val; omega
  · show half (decide (4096 ≤ (i 1).val)) + 1024 * ((i 1).val % 4096 / 1024) + 1 * ((i 1).val % 1024) = (i 1).val
    unfold half
    by_cases h : 4096 ≤ (i 1).val
    · rw [decide_eq_true h, if_pos rfl]; omega
    · rw [decide_eq_false h, if_neg (by decide)]; omega

/-- The result of device `c`. -/
def outAt (a b : S1.Idx → Elt F .f32) : S512x8192.Idx → Elt F .f32 := fun i =>
  fin xs ws c (scaleOf a b) (outHalf i) (outCol i) (outIdx i)

theorem out_is (a b : S1.Idx → Elt F .f32) :
    outIs c (fin xs ws c (scaleOf a b)) ⊢ (((c : Thread nD τ).loc cc0_stg4_0) ↦{fullShare} (outAt xs ws c a b : Buf (Elt F) ((c : Thread nD τ).loc cc0_stg4_0)) : sProp 𝕄) := by
  unfold outIs
  iintro ⟨%f, %hf, H⟩
  have e : f = (outAt xs ws c a b : Buf (Elt F) ((c : Thread nD τ).loc cc0_stg4_0)) := by
    funext i
    exact (congrArg f (out_at i)).symm.trans (congrFun (hf (outHalf i) (outCol i)) (outIdx i))
  rw [← e]
  iexact H

/-! ## The whole body -/

/-- What device `c` starts from, besides the staged operands. -/
def start0 : sProp 𝕄 :=
  iprop(env xs ws K ∗ (eight fun d t => sendsAt (F := F) c 0 d t) ∗ restTs (F := F) c 0 ∗ atPos ER (cell c barK) 0 ∅ 0)

theorem nbrs_zero : records xs ws K ⊢ nbrs (F := F) c 0 := by
  unfold nbrs
  iintro #H
  isplitl
  · iapply (zero_at xs ws K (peer c true) barK); iexact H
  · iapply (zero_at xs ws K (peer c false) barK); iexact H

theorem hops_step (q : F .f32) {k : Body F} :
    iprop(env xs ws K ∗ within xs ws c 0) ⊢ iprop((after xs ws c q -∗ run c k Q) -∗ run c (
      hop c 0 <| barrier c <| hop c 1 <| barrier c <| hop c 2 <| barrier c <| hop c 3 <| barrier c <| hop c 4 <| barrier c <| hop c 5 <|
      barrier c <| begin_ c 6 <| lasts q k) Q) := by
  iintro ⟨#He, H⟩ Hk
  iapply (hop_step xs ws K c 0) $$ [H]; · isplitr; (iexact He); iexact H
  iintro H
  iapply (to_within xs ws K c 1) $$ [H]; · isplitr; (iexact He); iexact H
  iintro H
  iapply (hop_step xs ws K c 1) $$ [H]; · isplitr; (iexact He); iexact H
  iintro H
  iapply (to_within xs ws K c 2) $$ [H]; · isplitr; (iexact He); iexact H
  iintro H
  iapply (hop_step xs ws K c 2) $$ [H]; · isplitr; (iexact He); iexact H
  iintro H
  iapply (to_within xs ws K c 3) $$ [H]; · isplitr; (iexact He); iexact H
  iintro H
  iapply (hop_step xs ws K c 3) $$ [H]; · isplitr; (iexact He); iexact H
  iintro H
  iapply (to_within xs ws K c 4) $$ [H]; · isplitr; (iexact He); iexact H
  iintro H
  iapply (hop_step xs ws K c 4) $$ [H]; · isplitr; (iexact He); iexact H
  iintro H
  iapply (to_within xs ws K c 5) $$ [H]; · isplitr; (iexact He); iexact H
  iintro H
  iapply (hop_step xs ws K c 5) $$ [H]; · isplitr; (iexact He); iexact H
  iintro H
  iapply (to_within xs ws K c 6) $$ [H]; · isplitr; (iexact He); iexact H
  iintro H
  iapply (hop_last xs ws K c q) $$ [H]; · isplitr; (iexact He); iexact H
  iexact Hk

/-- The body, from the staged operands and two buffers holding anything, leaves the result. -/
theorem body_step (a b : S1.Idx → Elt F .f32) :
    iprop(start0 xs ws K c ∗ (wholeBuf (F := F) c false ∗ wholeBuf (F := F) c true) ∗ ow c (due 0) ∗ opsIs c xs ws ∗ scalesIs c a b ∗ ∃ g, outIs c g)
      ⊢ iprop(((wholeBuf (F := F) c false ∗ wholeBuf (F := F) c true) ∗ ownZero (F := F) c ∗ semVal (cell c barK) 0 ∗ ow c [] ∗ opsIs c xs ws
          ∗ scalesIs c a b ∗ (((c : Thread nD τ).loc cc0_stg4_0) ↦{fullShare} (outAt xs ws c a b : Buf (Elt F) ((c : Thread nD τ).loc cc0_stg4_0))) -∗ Q ⟨⟩)
        -∗ run c body Q) := by
  unfold start0 body
  rw [show restTs (F := F) c 0 = _ from restTs_eq c 0, show due 0 = _ from due_eq 0]
  unfold hopTs run
  simp only [wp_deviceId]
  iintro ⟨⟨#He, Hs, ⟨⟨HB, HT⟩, Hrest⟩, Hat⟩, ⟨B0, B1⟩, HO, Hx, Hsc, Ho⟩ Hk
  ihave #HI := (show env xs ws K ⊢ records xs ws K by unfold env; iintro ⟨#H, -⟩; iexact H) $$ He
  ihave B0 := (buf_split c false) $$ B0
  ihave B1 := (buf_split c true) $$ B1
  icases B0 with ⟨S0, F0⟩
  icases B1 with ⟨S1, F1⟩
  iapply (barrier_step xs ws K c 0 _ (mem_mid 0)) $$ [HB Hat F0 F1 HO]
  · isplitr; · iexact He
    isplitr; · iapply (nbrs_zero xs ws K c); iexact HI
    isplitl [HB]; · iexact HB
    isplitl [Hat]; · iexact Hat
    isplitl [F0 F1]
    · unfold eight; isplitl [F0]; · iexact F0
      iexact F1
    iexact HO
  iintro ⟨Hat, #Hr, Hf, HO⟩
  iapply (seed_step xs ws c false) $$ [Hx S0]; · isplitl [Hx] <;> iassumption
  iintro ⟨Hx, S0⟩
  iapply (seed_step xs ws c true) $$ [Hx S1]; · isplitl [Hx] <;> iassumption
  iintro ⟨Hx, S1⟩
  iapply (scale_step c a b) $$ Hsc
  iintro Hsc
  iapply (hops_step xs ws K c (scaleOf a b)) $$ [S0 S1 Hf Hs HT Hrest Hat HO Hx Ho]
  · isplitr; · iexact He
    unfold within
    isplitl [S0 S1 Hf Hs]
    · iapply (show _ ⊢ eight (ready xs ws c 0) from sep_eight _ _)
      isplitl [S0 S1]
      · unfold eight; isplitl [S0]; · iexact S0
        iexact S1
      iapply (sep_eight (fun d t => free (F := F) (peer c d) d (slot ((0 : Fin 7).val + 1)) t) (fun d t => sendsAt (F := F) c 0 d t))
      isplitl [Hf] <;> iassumption
    isplitl [HT]; · iexact HT
    isplitl [Hrest]; · iexact Hrest
    isplitr; · iapply (show (iprop(emp) : sProp 𝕄) ⊢ closed (F := F) c (0 : Fin 7).val from .rfl); iempintro
    isplitl [Hat]
    · isplitl [Hat]; · iexact Hat
      iexact Hr
    isplitl [HO]; · iexact HO
    isplitl [Hx] <;> iassumption
  unfold after
  iintro ⟨HR, Hcl, Hat, HO, Hx, Ho⟩
  unfold run
  rw [wp_ret]
  imod (close_step xs ws K c) $$ [HR Hcl Hat] with ⟨Hbuf, Hz, Hzb⟩
  · isplitr; · iexact HI
    isplitl [HR]; · iexact HR
    isplitl [Hcl] <;> iassumption
  imodintro
  iapply Hk
  isplitl [Hbuf]; · iexact Hbuf
  isplitl [Hz]; · iexact Hz
  isplitl [Hzb]; · iexact Hzb
  isplitl [HO]; · iexact HO
  isplitl [Hx]; · iexact Hx
  isplitl [Hsc]; · iexact Hsc
  iapply (out_is xs ws c a b); iexact Ho

end Cert.KernelIdealProof

end
-- ==== Proof.KernelIdeal.Deal.lean ====
/-
# What the launch deals out

The cells' invariants, positions and tokens as they are made, and how each token comes to the device that pays with it.
-/
module

public import proofs.«01_k».proof.Proof.KernelIdeal.Body

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → S4096x512.Idx → Elt F .i8) (ws : Dev nD → S512x8192.Idx → Elt F .i8)

/-! ## The cells and the tokens -/

theorem cell_injective : Function.Injective fun p : Dev nD × Ki => cell p.1 p.2 := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨fun p : Dev nD × Ki => cell p.1 p.2, cell_injective⟩

/-- The tokens of a device's cells, hop by hop: the barrier's by duty, a send cell's, a receive cell's. -/
abbrev Tok : Type := Fin 7 × (Bool ⊕ (Bool × Fin 4) ⊕ (Bool × Fin 4))
/-- A token's cell, round and duty. -/
def tokOf : Tok → Ki × ℕ × Bool
  | (s, .inl d) => (barK, s.val, d)
  | (s, .inr (.inl (d, t))) => (sendK d (slot s.val) t, s.val / 2, false)
  | (s, .inr (.inr (d, t))) => (recvK d s t, 0, false)

theorem tokOf_injective : Function.Injective tokOf := by
  rintro ⟨s, d | ⟨d, t⟩ | ⟨d, t⟩⟩ ⟨s', d' | ⟨d', t'⟩ | ⟨d', t'⟩⟩ h
  · have h1 : s.val = s'.val := congrArg (fun x : Ki × ℕ × Bool => x.2.1) h
    have h2 : d = d' := congrArg (fun x : Ki × ℕ × Bool => x.2.2) h
    rw [Fin.ext h1, h2]
  · cases congrArg Prod.fst h
  · cases congrArg Prod.fst h
  · cases congrArg Prod.fst h
  · have h0 : (d, slot s.val, t) = (d', slot s'.val, t') := Sum.inl.inj (Sum.inr.inj (congrArg Prod.fst h))
    have h1 : s.val / 2 = s'.val / 2 := congrArg (fun x : Ki × ℕ × Bool => x.2.1) h
    have h2 : s.val % 2 = s'.val % 2 := congrArg (fun x : Bool × Fin 2 × Fin 4 => x.2.1.val) h0
    have h3 : d = d' := congrArg Prod.fst h0
    have h4 : t = t' := congrArg (fun x : Bool × Fin 2 × Fin 4 => x.2.2) h0
    rw [show s = s' from Fin.ext (by omega), h3, h4]
  · cases Sum.inr.inj (congrArg Prod.fst h)
  · cases congrArg Prod.fst h
  · cases Sum.inr.inj (congrArg Prod.fst h)
  · have h0 : (d, s, t) = (d', s', t') := Sum.inr.inj (Sum.inr.inj (congrArg Prod.fst h))
    have h1 : s = s' := congrArg (fun x : Bool × Fin 7 × Fin 4 => x.2.1) h0
    have h3 : d = d' := congrArg Prod.fst h0
    have h4 : t = t' := congrArg (fun x : Bool × Fin 7 × Fin 4 => x.2.2) h0
    rw [h1, h3, h4]

abbrev tokAt (p : Dev nD × Tok) : GSem nD τ sig × ℕ × Bool := (cell p.1 (tokOf p.2).1, (tokOf p.2).2.1, (tokOf p.2).2.2)
theorem tokAt_injective : Function.Injective tokAt := by
  rintro ⟨c, j⟩ ⟨c', j'⟩ h
  have h0 : (c, (tokOf j).1) = (c', (tokOf j').1) := cell_injective (congrArg Prod.fst h)
  have h1 : c = c' := congrArg Prod.fst h0
  have h2 : (tokOf j).1 = (tokOf j').1 := congrArg Prod.snd h0
  have h3 : j = j' := tokOf_injective (Prod.ext h2 (congrArg (fun x : GSem nD τ sig × ℕ × Bool => x.2) h))
  rw [h1, h3]
def allToks : Finset (GSem nD τ sig × ℕ × Bool) := Finset.univ.map ⟨tokAt, tokAt_injective⟩

/-- What the launch starts from. -/
def u₀ : UU := (initOf (Pipeline.cells cfgs cellOf_inj) (Pipeline.launchToks cfgs cellOf_inj), initOf allCells allToks)

/-! ## Each token to the device that pays with it -/

/-- The ring's shift. -/
def shift (d : Bool) : Dev nD ≃ Dev nD := ⟨fun c => peer c d, fun c => peer c (!d), fun c => peer_peer c d, fun c => peer_peer' c d⟩
/-- On whose cell device `c` pays a token. -/
def paidAt : Tok → (Dev nD ≃ Dev nD)
  | (_, .inl d) => shift (!d)
  | (_, .inr (.inl _)) => Equiv.refl _
  | (_, .inr (.inr (d, _))) => shift d

/-- The tokens that device `c` pays with in hop `s`. -/
def hopToks (c : Dev nD) (s : Fin 7) : sProp 𝕄 :=
  iprop((dutyTok ER (cell (peer c true) barK) s.val false ∗ dutyTok ER (cell (peer c false) barK) s.val true)
    ∗ (eight fun d t => dutyTok ER (cell c (sendK d (slot s.val) t)) (s.val / 2) false)
    ∗ eight fun d t => dutyTok ER (cell (peer c d) (recvK d s t)) 0 false)

theorem over_bt (f : Bool → Fin 4 → sProp 𝕄) : (bigSep Finset.univ fun p : Bool × Fin 4 => f p.1 p.2) = eight f := by
  rw [bigSep_univ_prod, eight_eq]

theorem hop_toks (c : Dev nD) :
    (bigSep Finset.univ fun j : Tok => (dutyTok ER (cell (paidAt j c) (tokOf j).1) (tokOf j).2.1 (tokOf j).2.2 : sProp 𝕄))
      = bigSep Finset.univ (hopToks (F := F) c) := by
  rw [bigSep_univ_prod]
  refine bigSep_congr fun s _ => ?_
  refine (bigSep_univ_sum _).trans (congrArg₂ BI.sep ?_ ((bigSep_univ_sum _).trans (congrArg₂ BI.sep ?_ ?_)))
  · exact bigSep_two_bool _
  · exact over_bt fun d t => dutyTok ER (cell c (sendK d (slot s.val) t)) (s.val / 2) false
  · exact over_bt fun d t => dutyTok ER (cell (peer c d) (recvK d s t)) 0 false

theorem deal_toks :
    (bigSep Finset.univ fun c : Dev nD => bigSep Finset.univ fun j : Tok => (dutyTok ER (cell c (tokOf j).1) (tokOf j).2.1 (tokOf j).2.2 : sProp 𝕄))
      = bigSep Finset.univ fun c : Dev nD => bigSep Finset.univ (hopToks (F := F) c) := by
  refine (bigSep_univ_comm fun (c : Dev nD) (j : Tok) => (dutyTok ER (cell c (tokOf j).1) (tokOf j).2.1 (tokOf j).2.2 : sProp 𝕄)).trans ?_
  refine (bigSep_congr fun j _ => bigSep_univ_equiv (paidAt j) fun c : Dev nD => (dutyTok ER (cell c (tokOf j).1) (tokOf j).2.1 (tokOf j).2.2 : sProp 𝕄)).trans ?_
  refine (bigSep_univ_comm fun (j : Tok) (c : Dev nD) => (dutyTok ER (cell (paidAt j c) (tokOf j).1) (tokOf j).2.1 (tokOf j).2.2 : sProp 𝕄)).trans ?_
  exact bigSep_congr fun c _ => hop_toks c

/-! ## The launch's own step -/

/-- What the launch makes for device `c`. -/
def G (c : Dev nD) : sProp 𝕄 :=
  iprop((bigSep Finset.univ fun k : Ki => roundState ER (sched xs ws) (cell c k) 0)
    ∗ (bigSep Finset.univ fun k : Ki => iprop(atPos ER (cell c k) 0 ∅ 0 ∗ reached ER (cell c k) 0))
    ∗ bigSep Finset.univ fun j : Tok => dutyTok ER (cell c (tokOf j).1) (tokOf j).2.1 (tokOf j).2.2)
/-- What device `c` gets of all of it. -/
def G' (c : Dev nD) : sProp 𝕄 :=
  iprop(∃ K, records xs ws K ∗ (bigSep Finset.univ fun k : Ki => atPos ER (cell c k) 0 ∅ 0) ∗ bigSep Finset.univ (hopToks (F := F) c))

theorem fund_all : BI.own (ER (initOf allCells allToks)) ⊢ (|==> bigSep Finset.univ (G xs ws) : sProp 𝕄) := by
  have hX (Φ : GSem nD τ sig → sProp 𝕄) : bigSep allCells Φ = bigSep Finset.univ fun c : Dev nD => bigSep Finset.univ fun k : Ki => Φ (cell c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun j : Tok => dutyTok ER (cell c (tokOf j).1) (tokOf j).2.1 (tokOf j).2.2 := by
    unfold allToks; rw [bigSep_map, bigSep_univ_prod]; rfl
  iintro HX
  imod (Rounds.fund ER (sched xs ws) allCells allToks) $$ HX with ⟨Hst, Hr, Hat, Htok⟩
  imodintro
  ihave Hst := (Entails.of_eq (hX fun g => roundState ER (sched xs ws) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (cell c barK) 0 := by
  unfold unscopedSems0; rw [bigSep_eq_bigSepL_of_eq [SemLoc.reg barS] (by decide) (by decide)]; rfl
theorem ownSems0_eq (c : Dev nD) : (Pipeline.ownSems0 (Ix := ℕ) (Name := ℕ) (U := UU) (Lvl := ℕ) (Val := Elt F) (τ := τ) osem c : sProp 𝕄) = ownZero c := rfl
theorem over_cells (Φ : Ki → sProp 𝕄) : bigSep Finset.univ Φ = iprop(Φ barK ∗ bigSep Finset.univ fun o : Own => Φ (.inr o)) :=
  (bigSep_univ_sum Φ).trans (congrArg (fun P => BI.sep P (bigSep Finset.univ fun o : Own => Φ (.inr o))) (bigSep_univ_of_subsingleton ()))

theorem over_own (Φ : Own → sProp 𝕄) :
    bigSep Finset.univ Φ = iprop((bigSep Finset.univ fun a => Φ (.inl a)) ∗ bigSep Finset.univ fun b => Φ (.inr b)) := bigSep_univ_sum Φ

theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k : Ki => iprop(∃ κ : ℕ, cellInv ER (sched xs ws) κ (cell c k)))
          ∗ (bigSep Finset.univ fun k : Ki => iprop(atPos ER (cell c k) 0 ∅ 0 ∗ reached ER (cell c k) 0))
          ∗ bigSep Finset.univ fun j : Tok => dutyTok ER (cell c (tokOf j).1) (tokOf j).2.1 (tokOf j).2.2) := by
  rw [ownSems0_eq, unscopedSems0_eq]
  unfold G ownZero
  iintro ⟨Hos, Hus, Hst, Hat, Htok⟩
  ihave Hv := (Entails.of_eq (over_cells fun k => (semVal (cell c k) 0 : sProp 𝕄)).symm) $$ [Hos Hus]
  · isplitl [Hus] <;> iassumption
  imod (show iprop((bigSep Finset.univ fun k : Ki => semVal (cell c k) 0) ∗ bigSep Finset.univ fun k : Ki => roundState ER (sched xs ws) (cell c k) 0)
      ⊢ (|={Set.univ}=> bigSep Finset.univ fun k => iprop(∃ κ : ℕ, cellInv ER (sched xs ws) κ (cell c k)) : sProp 𝕄) from by
        rw [← bigSep_sep']
        exact (bigSep_mono fun k _ => (Rounds.body_intro ER (sched xs ws) (cell c k)).trans inv_alloc).trans (bigSep_fupd _ _)) $$ [Hv Hst] with Hinv
  · isplitl [Hv] <;> iassumption
  imodintro
  isplitl [Hinv]; · iexact Hinv
  isplitl [Hat] <;> iassumption

theorem each_with {α : Type} [Fintype α] [DecidableEq α] {R : sProp 𝕄} [BI.Persistent R] {Φ Ψ : α → sProp 𝕄} (h : ∀ a, iprop(R ∗ Φ a) ⊢ Ψ a) :
    iprop(R ∗ bigSep Finset.univ Φ) ⊢ bigSep Finset.univ Ψ := by
  refine (BI.Laws.sep_mono_left (BI.bigSep_of_persistent (Finset.univ : Finset α) R)).trans ?_
  rw [← bigSep_sep' Finset.univ (fun _ : α => R) Φ]; exact bigSep_mono fun a _ => h a

theorem regroup :
    (bigSep Finset.univ fun c : Dev nD => iprop((bigSep Finset.univ fun k : Ki => iprop(∃ κ : ℕ, cellInv ER (sched xs ws) κ (cell c k)))
          ∗ (bigSep Finset.univ fun k : Ki => iprop(atPos ER (cell c k) 0 ∅ 0 ∗ reached ER (cell c k) 0))
          ∗ bigSep Finset.univ fun j : Tok => dutyTok ER (cell c (tokOf j).1) (tokOf j).2.1 (tokOf j).2.2) : sProp 𝕄)
      ⊢ bigSep Finset.univ (G' xs ws) := by
  classical
  rw [bigSep_sep', bigSep_sep', deal_toks, ← bigSep_univ_prod (fun p : Dev nD × Ki => iprop(∃ κ : ℕ, cellInv ER (sched xs ws) κ (cell p.1 p.2))),
    bigSep_congr (s := Finset.univ) (fun (c : Dev nD) _ => bigSep_sep' Finset.univ (fun k : Ki => (atPos ER (cell c k) 0 ∅ 0 : sProp 𝕄)) (fun k => reached ER (cell c k) 0)),
    bigSep_sep', ← bigSep_univ_prod (fun p : Dev nD × Ki => (reached ER (cell p.1 p.2) 0 : sProp 𝕄))]
  iintro ⟨HI, ⟨Hat, #HR⟩, Htok⟩
  ihave HK := (BI.bigSep_exists_pi Finset.univ (fun (p : Dev nD × Ki) (κ : ℕ) => (cellInv ER (sched xs ws) κ (cell p.1 p.2) : sProp 𝕄))) $$ HI
  icases HK with ⟨%K, #HI⟩
  iapply (each_with (R := records xs ws K) (fun c : Dev nD => show iprop(records xs ws K
      ∗ ((bigSep Finset.univ fun k : Ki => atPos ER (cell c k) 0 ∅ 0) ∗ bigSep Finset.univ (hopToks (F := F) c))) ⊢ G' xs ws c by
    unfold G'
    iintro ⟨#HI, H1, H2⟩
    iexists K
    isplitr; · iexact HI
    isplitl [H1] <;> iassumption))
  isplitr
  · unfold records; isplitl; · iexact HI
    iexact HR
  · rw [bigSep_sep']
    isplitl [Hat] <;> iassumption

theorem glob :
    (bigSep Finset.univ fun c => iprop(Pipeline.ownSems0 (Ix := ℕ) (Name := ℕ) (U := UU) (Lvl := ℕ) (Val := Elt F) (τ := τ) osem c ∗ unscopedSems0 c ∗ G xs ws c) : sProp 𝕄)
      ⊢ |={Set.univ}=> bigSep Finset.univ (G' xs ws) :=
  ((bigSep_mono fun c _ => core_alloc xs ws c).trans (bigSep_fupd _ _)).trans (BI.fupd_mono (regroup xs ws))

/-! ## What a device starts from -/

/-- The credits of a hop. -/
def hopCreds (c : Dev nD) (s : Fin 7) : sProp 𝕄 :=
  iprop(cred (tallyAt (cell c barK) (2 * s.val + 1) 2) ∗ eight fun d t => cred (tallyAt (cell c (recvK d s t)) (2 * s.val + 2) N))

/-- A hop's credits on the receive cells, one after another. -/
def recvCreds (c : Dev nD) (s : Fin 7) : sProp 𝕄 :=
  iprop(cred (tallyAt (cell c (recvK false s 0)) (2 * s.val + 2) N) ∗ cred (tallyAt (cell c (recvK false s 1)) (2 * s.val + 2) N)
    ∗ cred (tallyAt (cell c (recvK false s 2)) (2 * s.val + 2) N) ∗ cred (tallyAt (cell c (recvK false s 3)) (2 * s.val + 2) N)
    ∗ cred (tallyAt (cell c (recvK true s 0)) (2 * s.val + 2) N) ∗ cred (tallyAt (cell c (recvK true s 1)) (2 * s.val + 2) N)
    ∗ cred (tallyAt (cell c (recvK true s 2)) (2 * s.val + 2) N) ∗ cred (tallyAt (cell c (recvK true s 3)) (2 * s.val + 2) N))

theorem hop_creds (c : Dev nD) (s : Fin 7) :
    (bigSepL (signals s ++ sends s) fun e => (cred (tallyAt (cell c e.2.1) e.2.2.1 e.2.2.2) : sProp 𝕄)) ⊢ hopCreds (F := F) c s := by
  rw [bigSepL_append]
  unfold signals sends hopCreds eight four
  simp only [bigSepL_cons_cons, bigSepL_singleton]
  show iprop((cred (tallyAt (cell c barK) (2 * s.val + 1) 1) ∗ cred (tallyAt (cell c barK) (2 * s.val + 1) 1)) ∗ recvCreds (F := F) c s) ⊢ _
  unfold recvCreds
  iintro ⟨⟨B0, B1⟩, HC⟩
  icases HC with ⟨A0, A1, A2, A3, C0, C1, C2, C3⟩
  isplitl [B0 B1]
  · iapply ((cred_add _ _).2.trans (Entails.of_eq (congrArg cred (tallyAt_add (cell c barK) (2 * s.val + 1) 1 1))))
    isplitl [B0] <;> iassumption
  isplitl [A0 A1 A2 A3]
  · isplitl [A0]; · iexact A0
    isplitl [A1]; · iexact A1
    isplitl [A2] <;> iassumption
  · isplitl [C0]; · iexact C0
    isplitl [C1]; · iexact C1
    isplitl [C2] <;> iassumption

theorem all_creds (c : Dev nD) (l : List (Fin 7)) :
    (bigSepL (l.flatMap fun s => signals s ++ sends s) fun e => (cred (tallyAt (cell c e.2.1) e.2.2.1 e.2.2.2) : sProp 𝕄)) ⊢ bigSepL l (hopCreds (F := F) c) := by
  induction l with
  | nil => exact .rfl
  | cons s l ih =>
    rw [List.flatMap_cons, bigSepL_append, bigSepL_cons']
    iintro ⟨H0, H1⟩
    isplitl [H0]
    · iapply (hop_creds c s); iexact H0
    · iapply ih; iexact H1

theorem all_hops : (List.finRange 7).filter (0 ≤ ·.val) = [0, 1, 2, 3, 4, 5, 6] := by decide
theorem over_hops (Φ : Fin 7 → sProp 𝕄) : bigSepL ((List.finRange 7).filter (0 ≤ ·.val)) Φ = bigSep Finset.univ Φ := by
  rw [all_hops]; exact (bigSep_univ_eq_bigSepL [0, 1, 2, 3, 4, 5, 6] (by decide) (by decide) Φ).symm

theorem hop_start (c : Dev nD) (s : Fin 7) :
    iprop(hopToks (F := F) c s ∗ hopCreds c s ∗ eight fun d t => atPos ER (cell c (recvK d s t)) 0 ∅ 0) ⊢ hopTs (F := F) c s := by
  unfold hopToks hopCreds hopTs barT
  iintro ⟨⟨⟨HT, HF⟩, HS, HR⟩, ⟨HB, HC⟩, HP⟩
  isplitl [HT HF HB]
  · isplitl [HT]; · iexact HT
    isplitl [HF] <;> iassumption
  iapply (show _ ⊢ eight (hopT (F := F) c s) from sep_eight (fun d t => dutyTok ER (cell c (sendK d (slot s.val) t)) (s.val / 2) false) _)
  isplitl [HS]; · iexact HS
  iapply (sep_eight (fun d t => dutyTok ER (cell (peer c d) (recvK d s t)) 0 false) _)
  isplitl [HR]; · iexact HR
  iapply (sep_eight (fun d t => atPos ER (cell c (recvK d s t)) 0 ∅ 0) (fun d t => cred (tallyAt (cell c (recvK d s t)) (2 * s.val + 2) N)))
  isplitl [HP] <;> iassumption

theorem sends_zero (K : Dev nD × Ki → ℕ) (c : Dev nD) (d : Bool) (t : Fin 4) :
    iprop(records xs ws K ∗ atPos ER (cell c (sendK d 0 t)) 0 ∅ 0 ∗ atPos ER (cell c (sendK d 1 t)) 0 ∅ 0) ⊢ sendsAt (F := F) c 0 d t := by
  unfold sendsAt sendAt
  rw [show slot 0 = 0 from rfl, show slot (0 + 1) = 1 from rfl]
  iintro ⟨#HI, H0, H1⟩
  isplitl [H0]
  · isplitl [H0]; · iexact H0
    iapply (zero_at xs ws K c (sendK d 0 t)); iexact HI
  · isplitl [H1]; · iexact H1
    iapply (zero_at xs ws K c (sendK d 1 t)); iexact HI

theorem eight_with {R : sProp 𝕄} [BI.Persistent R] {f g : Bool → Fin 4 → sProp 𝕄} (h : ∀ d t, iprop(R ∗ f d t) ⊢ g d t) :
    iprop(R ∗ eight f) ⊢ eight g := by
  unfold eight four
  iintro ⟨#HR, ⟨A0, A1, A2, A3⟩, B0, B1, B2, B3⟩
  isplitl [A0 A1 A2 A3]
  · isplitl [A0]; · iapply (h false 0); isplitr; (iexact HR); iexact A0
    isplitl [A1]; · iapply (h false 1); isplitr; (iexact HR); iexact A1
    isplitl [A2]; · iapply (h false 2); isplitr; (iexact HR); iexact A2
    iapply (h false 3); isplitr; (iexact HR); iexact A3
  · isplitl [B0]; · iapply (h true 0); isplitr; (iexact HR); iexact B0
    isplitl [B1]; · iapply (h true 1); isplitr; (iexact HR); iexact B1
    isplitl [B2]; · iapply (h true 2); isplitr; (iexact HR); iexact B2
    iapply (h true 3); isplitr; (iexact HR); iexact B3

theorem to_start (c : Dev nD) :
    iprop(G' xs ws c ∗ levAts (SiteBlocks.L 16) SiteBlocks.lv ∗ Pipeline.launchCred (fun d => owe d (due 0)) c) ⊢ iprop(∃ K, start0 xs ws K c) := by
  unfold G'
  iintro ⟨⟨%K, #HI, Hat, Htok⟩, #Hlev, Hcr⟩
  ihave Hcr := ((creds (due 0) c).trans (all_creds c _)) $$ Hcr
  ihave Hcr := (Entails.of_eq (over_hops (hopCreds (F := F) c))) $$ Hcr
  ihave Hat := (Entails.of_eq (over_cells fun k => (atPos ER (cell c k) 0 ∅ 0 : sProp 𝕄))) $$ Hat
  icases Hat with ⟨Hb, Hat⟩
  ihave Hat := (Entails.of_eq (over_own fun o : Own => (atPos ER (cell c (.inr o)) 0 ∅ 0 : sProp 𝕄))) $$ Hat
  icases Hat with ⟨Hs, Hr⟩
  ihave Hs := (Entails.of_eq (over_sends fun d b t => (atPos ER (cell c (sendK d b t)) 0 ∅ 0 : sProp 𝕄))) $$ Hs
  ihave Hr := (Entails.of_eq (over_recvs fun d s t => (atPos ER (cell c (recvK d s t)) 0 ∅ 0 : sProp 𝕄))) $$ Hr
  iexists K
  unfold start0 env restTs
  rw [over_hops]
  isplitr
  · isplitl; · iexact HI
    iexact Hlev
  isplitl [Hs]
  · iapply (eight_with (sends_zero xs ws K c))
    isplitr; · iexact HI
    iapply (sep_eight (fun d t => atPos ER (cell c (sendK d 0 t)) 0 ∅ 0) (fun d t => atPos ER (cell c (sendK d 1 t)) 0 ∅ 0))
    iexact Hs
  isplitr [Hb]
  · iapply (show iprop(bigSep Finset.univ (hopToks (F := F) c) ∗ bigSep Finset.univ (hopCreds (F := F) c)
        ∗ bigSep Finset.univ fun s : Fin 7 => eight fun d t => atPos ER (cell c (recvK d s t)) 0 ∅ 0) ⊢ bigSep Finset.univ (hopTs (F := F) c) by
      rw [← bigSep_sep', ← bigSep_sep']
      exact bigSep_mono fun s _ => hop_start c s)
    isplitl [Htok]; · iexact Htok
    isplitl [Hcr] <;> iassumption
  iexact Hb

end Cert.KernelIdealProof

end
-- ==== Proof.KernelIdeal.Launch.lean ====
/-
# The run of the whole program

From any memory with zero counters the eight devices run to the end, each result array at the computed contents.
-/
module

public import proofs.«01_k».proof.Proof.KernelIdeal.Deal
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The state at the start. -/
def s₀ : MemSt nD τ sig (Elt F) := ⟨m, fun _ => 0, ρ⟩
/-- The operands as the region stages them. -/
def xIn (c : Dev nD) : S4096x512.Idx → Elt F .i8 := (win0_0.blk (0 : Fin 1)).view.read (Elt F) ((s₀ m ρ).mem ((c : Thread nD τ).loc main_arg0))
def wIn (c : Dev nD) : S512x8192.Idx → Elt F .i8 := (win0_1.blk (0 : Fin 1)).view.read (Elt F) ((s₀ m ρ).mem ((c : Thread nD τ).loc main_arg1))
def aIn (c : Dev nD) : S1.Idx → Elt F .f32 := (win0_2.blk (0 : Fin 1)).view.read (Elt F) ((s₀ m ρ).mem ((c : Thread nD τ).loc main_arg2))
def bIn (c : Dev nD) : S1.Idx → Elt F .f32 := (win0_3.blk (0 : Fin 1)).view.read (Elt F) ((s₀ m ρ).mem ((c : Thread nD τ).loc main_arg3))
/-- What device `c` leaves in its result. -/
def outIn (c : Dev nD) : S512x8192.Idx → Elt F .f32 := outAt (xIn m ρ) (wIn m ρ) c (aIn m ρ c) (bIn m ρ c)

/-- What a device starts its body from, and what it ends with. -/
def start (c : Dev nD) : sProp 𝕄 := iprop(∃ K, start0 (xIn m ρ) (wIn m ρ) K c)
def Φ₀ (c : Dev nD) : sProp 𝕄 := iprop(start m ρ c ∗ wholeBuf (F := F) c false ∗ wholeBuf (F := F) c true)
def Φ₁ (c : Dev nD) : sProp 𝕄 := iprop((wholeBuf (F := F) c false ∗ wholeBuf (F := F) c true) ∗ ownZero (F := F) c ∗ semVal (cell c barK) 0)
def O₀ (c : Dev nD) : CellTallies nD τ sig ℕ := owe c (due 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => aIn m ρ c
    | ⟨3, _⟩ => bIn m ρ c
    | ⟨4, _⟩ => outIn m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl
theorem ownSemFacts : Pipeline.OwnSemFacts cfg0.spec osem :=
  ⟨by decide, osem_injective, by decide⟩

/-! ## The body meets what the region asks of it -/

/-- A whole buffer of device `c` at contents `X`. -/
def stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))
theorem stg_intro (c : Dev nD) (b : Ref sig .tc) (X : Buf (Elt F) ((c : Thread nD τ).loc b)) : (((c : Thread nD τ).loc b) ↦{fullShare} X) ⊢ stg c b X := by
  unfold stg; iintro H; iexists X; isplitr; · ipureintro; rfl
  iexact H
theorem stg_elim (c : Dev nD) (b : Ref sig .tc) (X : Buf (Elt F) ((c : Thread nD τ).loc b)) : stg c b X ⊢ (((c : Thread nD τ).loc b) ↦{fullShare} X) := by
  unfold stg; iintro ⟨%f, %h, H⟩; subst h; iexact H
theorem owns_eq (c : Dev nD) (b : Ref sig .tc) (X : Buf (Elt F) ((c : Thread nD τ).loc b)) :
    (owns (c : Thread nD τ) (Memref.whole b) fullShare X : sProp 𝕄) = stg c b X := by
  unfold owns stg; simp only [Memref.view_whole, View.read_whole, View.set_whole]

abbrev t₀ : Fin cfg0.N := t0_0
def bodyPre (c : Dev nD) : sProp 𝕄 :=
  iprop(Φ₀ m ρ c ∗ (dats m ρ 0 c).owesAt 0 t₀.castSucc
    ∗ (∃ d, stg c cc0_stg0_0 ((dats m ρ 0 c).before 0 t₀ d))
    ∗ (∃ d, stg c cc0_stg1_0 ((dats m ρ 0 c).before 1 t₀ d))
    ∗ (∃ d, stg c cc0_stg2_0 ((dats m ρ 0 c).before 2 t₀ d))
    ∗ (∃ d, stg c cc0_stg3_0 ((dats m ρ 0 c).before 3 t₀ d))
    ∗ (∃ d, stg c cc0_stg4_0 ((dats m ρ 0 c).before 4 t₀ d)))
def bodyPost (c : Dev nD) : sProp 𝕄 :=
  iprop(Φ₁ c ∗ (dats m ρ 0 c).owesAt 0 t₀.succ ∗ stg c cc0_stg0_0 (xIn m ρ c) ∗ stg c cc0_stg1_0 (wIn m ρ c)
    ∗ stg c cc0_stg2_0 (aIn m ρ c) ∗ stg c cc0_stg3_0 (bIn m ρ c) ∗ stg c cc0_stg4_0 (outIn m ρ c))

theorem before_x (c : Dev nD) (d) : (dats m ρ 0 c).before 0 t₀ d = xIn m ρ c := by unfold Dat.before; rw [if_pos (fetch0_0 t₀)]; rfl
theorem before_w (c : Dev nD) (d) : (dats m ρ 0 c).before 1 t₀ d = wIn m ρ c := by unfold Dat.before; rw [if_pos (fetch0_1 t₀)]; rfl
theorem before_a (c : Dev nD) (d) : (dats m ρ 0 c).before 2 t₀ d = aIn m ρ c := by unfold Dat.before; rw [if_pos (fetch0_2 t₀)]; rfl
theorem before_b (c : Dev nD) (d) : (dats m ρ 0 c).before 3 t₀ d = bIn m ρ c := by unfold Dat.before; rw [if_pos (fetch0_3 t₀)]; rfl

theorem outIs_any (c : Dev nD) (f : Buf (Elt F) ((c : Thread nD τ).loc cc0_stg4_0)) : (((c : Thread nD τ).loc cc0_stg4_0) ↦{fullShare} f) ⊢ iprop(∃ g, outIs c g) := by
  unfold outIs
  iintro H
  iexists fun d t => oM.view.readAt (Elt F) (rOut d t).toLoadRect f
  iexists f
  isplitr; · ipureintro; exact fun _ _ => rfl
  iexact H

theorem body_meets (c : Dev nD) : bodyPre m ρ c ⊢ run c body (fun _ => bodyPost m ρ c) := by
  unfold bodyPre Φ₀ start
  iintro ⟨⟨⟨%K, Hst⟩, Hb⟩, Ho, ⟨%d0, H0⟩, ⟨%d1, H1⟩, ⟨%d2, H2⟩, ⟨%d3, H3⟩, ⟨%d4, H4⟩⟩
  rw [before_x, before_w, before_a, before_b]
  ihave H0 := (stg_elim c _ _) $$ H0
  ihave H1 := (stg_elim c _ _) $$ H1
  ihave H2 := (stg_elim c _ _) $$ H2
  ihave H3 := (stg_elim c _ _) $$ H3
  ihave H4 := ((stg_elim c _ _).trans (outIs_any c _)) $$ H4
  unfold Dat.owesAt Pipeline.owesWithin
  icases Ho with ⟨%W, %hW, HO⟩
  rw [show (dats m ρ 0 c).owed t₀.castSucc = O₀ c from rfl]
  iapply (body_step (xIn m ρ) (wIn m ρ) K c (aIn m ρ c) (bIn m ρ c) (Q := fun _ => bodyPost m ρ c)) $$ [Hst Hb HO H0 H1 H2 H3 H4]
  · isplitl [Hst]; · iexact Hst
    isplitl [Hb]; · iexact Hb
    isplitl [HO]
    · unfold ow; iexists W; iexact HO
    isplitl [H0 H1]
    · unfold opsIs; isplitl [H0] <;> iassumption
    isplitl [H2 H3]
    · unfold scalesIs; isplitl [H2] <;> iassumption
    iexact H4
  iintro ⟨Hb, Hz, Hzb, HO, Hx, Hs, H4⟩
  unfold bodyPost Φ₁ opsIs scalesIs ow
  icases HO with ⟨%W', HO⟩
  icases Hx with ⟨H0, H1⟩
  icases Hs with ⟨H2, H3⟩
  isplitl [Hb Hz Hzb]
  · isplitl [Hb]; · iexact Hb
    isplitl [Hz] <;> iassumption
  isplitl [HO]
  · unfold Dat.owesAt Pipeline.owesWithin
    iexists W'
    isplitr; · ipureintro; exact fun _ _ => Or.inl trivial
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  iapply (stg_intro c cc0_stg4_0); iexact H4

set_option maxRecDepth 65536 in
theorem body_obligation (c : Dev nD) : BodyObligation (dats m ρ 0 c) defs₀ 𝒱₀ 0 Set.univ := fun t => by
  rw [fin_N0 t]
  rw [bigSep_W0, bigSep_W0]
  simp only [owns_eq]
  show bodyPre m ρ c ⊢ run c (cc0_body (F := F) xM (Memref.isWhole_whole _) wM (Memref.isWhole_whole _) aM (Memref.isWhole_whole _) bM (Memref.isWhole_whole _)
      oM (Memref.isWhole_whole _) (Memref.whole cc0_scratch0) (Memref.isWhole_whole _) (Memref.whole cc0_scratch1) (Memref.isWhole_whole _)
      cc0_scratch2 cc0_scratch3 cc0_scratch4 cc0_scratch5) (fun _ => bodyPost m ρ c)
  rw [cc0_body_eq]
  exact body_meets m ρ c

/-! ## The side conditions of the launch -/

theorem start_intro (c : Dev nD) :
    iprop(Pipeline.unscopedRestP Pipeline.Prefetch.none cfg0.spec c (fun b => m ((c : Thread nD τ).loc b)) ∗ levAts (SiteBlocks.L 16) SiteBlocks.lv
        ∗ Pipeline.launchCred O₀ c ∗ prngReg c (ρ c) ∗ G' (xIn m ρ) (wIn m ρ) c)
      ⊢ |={Set.univ}=> iprop(start m ρ c ∗ emp) := by
  iintro ⟨-, Hlev, Hcr, -, HG⟩
  imodintro
  isplitl
  · unfold start
    iapply (to_start (xIn m ρ) (wIn m ρ) c)
    isplitl [HG]; · iexact HG
    isplitl [Hlev]; · iexact Hlev
    iexact Hcr
  · iempintro

theorem phi_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, Hzb⟩
  isplitl [Hzb]; · iexact Hzb
  isplitl [Hz]; · iexact Hz
  iexact Hr

theorem waits (c : Dev nD) : (levAts (SiteBlocks.L 16) SiteBlocks.lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (due 0) (by decide) (by decide)
    · exact mayWait c _ 0 [] (by decide) (by decide)

/-! ## The run -/

/-- A window's array at the end. -/
def finalA (c : Dev nD) (w : Fin cfg0.W) : Buf (Elt F) ((cfg0.win w).arr.view.loc (c : Thread nD τ)) := (dats m ρ 0 c).arrAt w cfg0.N
/-- Every window's array is at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters, every fair execution on the eight devices ends, with each
    window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := SiteBlocks.L 16) (lv := SiteBlocks.lv) (hL := SiteBlocks.hL 16) (hwaits := waits m ρ)
    (G := G (xIn m ρ) (wIn m ρ)) (G' := G' (xIn m ρ) (wIn m ρ)) (u₀ := u₀)
    (hu₀ := by
      unfold u₀
      iintro Hu
      ihave H := (ownU_pair _ _) $$ Hu
      icases H with ⟨HP, HX⟩
      imod (fund_all (xIn m ρ) (wIn m ρ)) $$ HX with HG
      imodintro
      isplitl [HP] <;> iassumption)
    (hglob := glob (xIn m ρ) (wIn m ρ))
    (hA := fun _ _ => rfl) (hpf := fun _ k => k.elim0)
    (X := start m ρ) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 5) = m ((c : Thread nD τ).loc main_arg0) := (dats (F := F) m ρ 0 c).arrAt_in (0 : Fin 5) rfl _
theorem finalA_w (c : Dev nD) : finalA m ρ c (1 : Fin 5) = m ((c : Thread nD τ).loc main_arg1) := (dats (F := F) m ρ 0 c).arrAt_in (1 : Fin 5) rfl _
theorem finalA_a (c : Dev nD) : finalA m ρ c (2 : Fin 5) = m ((c : Thread nD τ).loc main_arg2) := (dats (F := F) m ρ 0 c).arrAt_in (2 : Fin 5) rfl _
theorem finalA_b (c : Dev nD) : finalA m ρ c (3 : Fin 5) = m ((c : Thread nD τ).loc main_arg3) := (dats (F := F) m ρ 0 c).arrAt_in (3 : Fin 5) rfl _

end Cert.KernelIdealProof

end
-- ==== Proof.KernelIdeal.Arith.lean ====
/-
# The sums the rings carry, as integers

A ring's sum for a row block begins as one device's product of `512` positions and gains one such product on each of the
seven devices it then visits. Over the reals every one of these products is an exact integer, no sum leaves the 32-bit
range, and the rounding to an integer changes nothing; so the word a ring ends with is the integer dot product over all
`4096` positions. This module states that in integers.
-/
module

public import proofs.«01_k».proof.Proof.KernelIdeal.Common
public import Idealize.ShloMosaic.Lib.IntMxu
public import Idealize.ShloMosaic.Lib.MatmulPlain
public import Idealize.ShloMosaic.Lib.ValueLayout

@[expose] public section

noncomputable section

namespace Cert.KernelIdealProof

open Cert.KernelIdeal Cert.KernelIdeal.Gen
open Idealize.ShloMosaic Idealize.SL.Sem
open Idealize.ShloMosaic.ValueIdx
open scoped BigOperators

/-! ## Which row block a ring handles where -/

/-- The row block whose sum ring `d` holds on device `c` before hop `n`. -/
def blk (d : Bool) (n : ℕ) (c : Dev nD) : Fin 8 :=
  ⟨(if d then c.val + 1 + n else c.val + 7 + 7 * n) % 8, Nat.mod_lt _ (by decide)⟩

theorem peer_right (c : Dev nD) : (peer c false).val = (c.val + 1) % 8 := by revert c; decide
theorem peer_left (c : Dev nD) : (peer c true).val = (c.val + 7) % 8 := by revert c; decide

/-- What a device receives is a sum for the row block it adds to next. -/
theorem blk_peer (d : Bool) (n : ℕ) (c : Dev nD) : blk d n (peer c (!d)) = blk d (n + 1) c := by
  refine Fin.ext ?_
  cases d
  · show ((peer c true).val + 7 + 7 * n) % 8 = (c.val + 7 + 7 * (n + 1)) % 8
    rw [peer_left]; omega
  · show ((peer c false).val + 1 + n) % 8 = (c.val + 1 + (n + 1)) % 8
    rw [peer_right]; omega

/-- After seven hops a device holds its own row block. -/
theorem blk_last (d : Bool) (c : Dev nD) : (blk d 7 c).val = c.val := by revert d c; decide

/-- The rows of `x` that the kernel multiplies are the row block of the sum they go into. -/
theorem xOff_blk (c : Dev nD) (s : Fin 7) (d : Bool) : xOff c s d = ![512 * (blk d (s.val + 1) c).val, 0] := by
  funext a; revert c s d a; decide
theorem seedOff_blk (c : Dev nD) (d : Bool) : seedOff c d = ![512 * (blk d 0 c).val, 0] := by
  funext a; revert c d a; decide

/-! ## One device's product -/

/-- Row `r` of row block `b`, and column `j` of column block `t` of half `d`. -/
def rowAt (b : Fin 8) (r : Fin 512) : Fin 4096 := ⟨512 * b.val + r.val, by omega⟩
def colIn (t : Fin 4) (j : Fin 1024) : Fin 4096 := ⟨1024 * t.val + j.val, by omega⟩
theorem half_le (d : Bool) : half d ≤ 4096 := by cases d <;> decide
def colAt (d : Bool) (q : Fin 4096) : Fin 8192 := ⟨half d + q.val, by have := half_le d; omega⟩

/-- The integer product of a row and a column over one device's `512` positions. -/
def dotI (x : S4096x512.Idx → BitVec 8) (w : S512x8192.Idx → BitVec 8) (r : Fin 4096) (q : Fin 8192) : ℤ :=
  ∑ k : Fin 512, (x (ix2 r k)).toInt * (w (ix2 k q)).toInt

/-- It is at most `2 ^ 23` in magnitude. -/
theorem dotI_le (x : S4096x512.Idx → BitVec 8) (w : S512x8192.Idx → BitVec 8) (r : Fin 4096) (q : Fin 8192) :
    |dotI x w r q| ≤ 2 ^ 23 := by
  refine (Finset.abs_sum_le_sum_abs _ _).trans ((Finset.sum_le_card_nsmul _ _ (2 ^ 14) fun k _ => ?_).trans (by simp))
  have hx := natAbs_toInt_i8_le (x (ix2 r k))
  have hw := natAbs_toInt_i8_le (w (ix2 k q))
  rw [abs_mul]
  calc |(x (ix2 r k)).toInt| * |(w (ix2 k q)).toInt| ≤ 128 * 128 :=
        mul_le_mul (by rw [Int.abs_eq_natAbs]; omega) (by rw [Int.abs_eq_natAbs]; omega) (abs_nonneg _) (by decide)
    _ = 2 ^ 14 := by decide

/-- The integer matrix unit's word at a row and a column, read as an integer. -/
theorem mat_toInt (x : S512x512.Idx → BitVec 8) (w : S512x4096.Idx → BitVec 8) (r : Fin 512) (q : Fin 4096) :
    (matmulI8 IntMxuNumerics.v7x dot_S512x512_S512x4096_S512x4096_1_0_0_1_n_n x w (constantI S512x4096 32 0#32) (ix2 r q)).toInt
      = ∑ k : Fin 512, (x (ix2 r k)).toInt * (w (ix2 k q)).toInt := by
  show (matmulI8 IntMxuNumerics.v7x (DotDims.plain 512 512 4096) x w (constantI S512x4096 32 0#32) (ix2 r q)).toInt = _
  have hn : (DotDims.plain 512 512 4096).contr.numel = 512 := by
    unfold Shape.numel; exact Fin.prod_univ_one _
  rw [matmulI8_toInt IntMxuNumerics.v7x _ x w _ (ix2 r q) rfl ((absDotI8_le_numel _ _ _ _).trans (by rw [hn]; decide))]
  unfold dotI8
  rw [← Equiv.sum_comp (DotDims.plainContr 512 512 4096).symm]
  refine Finset.sum_congr rfl fun k _ => ?_
  have hk := contrEquiv1_symm_val _ 512 (DotDims.plain_contr_rank 512 512 4096) (DotDims.plain_contr_size 512 512 4096) k
  rw [show (DotDims.plain 512 512 4096).lhsIdx (ix2 r q) ((DotDims.plainContr 512 512 4096).symm k) = ix2 r k from
      funext fun a => Fin.ext (match a with | ⟨0, _⟩ => rfl | ⟨1, _⟩ => hk),
    show (DotDims.plain 512 512 4096).rhsIdx (ix2 r q) ((DotDims.plainContr 512 512 4096).symm k) = ix2 k q from
      funext fun a => Fin.ext (match a with | ⟨0, _⟩ => hk | ⟨1, _⟩ => rfl)]

-- what every device's `x` and `w_mat` hold
variable (xs : Dev nD → S4096x512.Idx → BitVec 8) (ws : Dev nD → S512x8192.Idx → BitVec 8)

/-- The product on device `e` of a row block's row with a column of half `d`. -/
abbrev dotAt (d : Bool) (b : Fin 8) (r : Fin 512) (q : Fin 4096) (e : Dev nD) : ℤ := dotI (xs e) (ws e) (rowAt b r) (colAt d q)

theorem read_x (c : Dev nD) (off : Fin 2 → Nat) (h) (b : Fin 8) (e : off = ![512 * b.val, 0]) (r k : Fin 512) :
    xM.view.readAt (Elt Ideal) (Rect.unit (s := S4096x512) off S512x512.size h).toLoadRect (xs c) (ix2 r k) = xs c (ix2 (rowAt b r) k) := by
  subst e
  refine congrArg (xs c) (funext fun a => Fin.ext ?_)
  match a with
  | ⟨0, _⟩ => show 512 * b.val + 1 * r.val = 512 * b.val + r.val; omega
  | ⟨1, _⟩ => show 0 + 1 * k.val = k.val; omega

theorem read_w (c : Dev nD) (d : Bool) (k : Fin 512) (q : Fin 4096) :
    wM.view.readAt (Elt Ideal) (rHalf d).toLoadRect (ws c) (ix2 k q) = ws c (ix2 k (colAt d q)) := by
  refine congrArg (ws c) (funext fun a => Fin.ext ?_)
  match a with
  | ⟨0, _⟩ => show 0 + 1 * k.val = k.val; omega
  | ⟨1, _⟩ => show half d + 1 * q.val = half d + q.val; omega

/-- The partial product of a hop, an integer over the reals. -/
theorem prodAt_apply (d : Bool) (s : Fin 7) (c : Dev nD) (r : Fin 512) (q : Fin 4096) :
    prodAt (F := Ideal) xs ws d s c (ix2 r q) = ((dotAt xs ws d (blk d (s.val + 1) c) r q c : ℝ) : EReal) := by
  unfold prodAt k0_pay6
  simp only [shapeCast_self]
  refine congrArg (fun z : ℤ => ((z : ℝ) : EReal)) ((mat_toInt _ _ r q).trans (Finset.sum_congr rfl fun k _ => ?_))
  rw [read_x xs c _ _ _ (xOff_blk c s d), read_w]

/-- The partial product a ring starts from. -/
theorem seedCol_toInt (d : Bool) (c : Dev nD) (t : Fin 4) (r : Fin 512) (j : Fin 1024) :
    (seedCol (F := Ideal) xs ws d c t (ix2 r j) : BitVec 32).toInt = dotAt xs ws d (blk d 0 c) r (colIn t j) c := by
  unfold seedCol
  rw [shapeCast_1ab_ab_apply]
  rw [show (rSeedCol t).emb (ix3 (0 : Fin 1) r j) = ix3 (0 : Fin 1) r (colIn t j) from funext fun a => Fin.ext (match a with
    | ⟨0, _⟩ => rfl
    | ⟨1, _⟩ => by show 0 + 1 * r.val = r.val; omega
    | ⟨2, _⟩ => by show 1024 * t.val + 1 * j.val = 1024 * t.val + j.val; omega)]
  unfold seedAt k0_pay3
  simp only [shapeCast_self]
  rw [shapeCast_ab_1ab_apply]
  refine (mat_toInt _ _ r _).trans (Finset.sum_congr rfl fun k _ => ?_)
  rw [read_x xs c _ _ _ (seedOff_blk c d), read_w]

/-! ## The sum around the ring -/

/-- What `n` hops have added up on device `c` in ring `d`, the devices' terms being `f`. -/
def along (d : Bool) (f : Dev nD → ℤ) : ℕ → Dev nD → ℤ
  | 0, c => f c
  | n + 1, c => along d f n (peer c (!d)) + f c

theorem along_le (d : Bool) (f : Dev nD → ℤ) (B : ℤ) (h : ∀ e, |f e| ≤ B) : ∀ (n : ℕ) (c : Dev nD), |along d f n c| ≤ (n + 1) * B
  | 0, c => by simpa [along] using h c
  | n + 1, c => by
    have h1 := along_le d f B h n (peer c (!d))
    refine (abs_add_le _ _).trans ((add_le_add h1 (h c)).trans (le_of_eq ?_))
    push_cast; ring

/-- Seven hops add up the terms of all eight devices. -/
theorem along_all (d : Bool) (f : Dev nD → ℤ) (c : Dev nD) : along d f 7 c = ∑ e : Dev nD, f e := by
  have hr : ∀ c : Dev nD, peer c false = c + 1 := by decide
  have hl : ∀ c : Dev nD, peer c true = c + 7 := by decide
  have r2 : c + 1 + 1 = c + 2 := by revert c; decide
  have r3 : c + 2 + 1 = c + 3 := by revert c; decide
  have r4 : c + 3 + 1 = c + 4 := by revert c; decide
  have r5 : c + 4 + 1 = c + 5 := by revert c; decide
  have r6 : c + 5 + 1 = c + 6 := by revert c; decide
  have r7 : c + 6 + 1 = c + 7 := by revert c; decide
  have l6 : c + 7 + 7 = c + 6 := by revert c; decide
  have l5 : c + 6 + 7 = c + 5 := by revert c; decide
  have l4 : c + 5 + 7 = c + 4 := by revert c; decide
  have l3 : c + 4 + 7 = c + 3 := by revert c; decide
  have l2 : c + 3 + 7 = c + 2 := by revert c; decide
  have l1 : c + 2 + 7 = c + 1 := by revert c; decide
  have z : c + 0 = c := by revert c; decide
  have hs : (∑ e : Dev nD, f e) = f (c + 0) + f (c + 1) + f (c + 2) + f (c + 3) + f (c + 4) + f (c + 5) + f (c + 6) + f (c + 7) :=
    (Equiv.sum_comp (Equiv.addLeft (c : Fin 8)) f).symm.trans (Fin.sum_univ_eight fun k : Fin 8 => f (c + k))
  rw [hs, z]
  cases d
  · simp only [along, Bool.not_false, hl, l6, l5, l4, l3, l2, l1]; ring
  · simp only [along, Bool.not_true, hr, r2, r3, r4, r5, r6, r7]; ring

/-- Rounding an integer to an integer word keeps it. -/
theorem fptosi_int (z : ℤ) (h : |z| ≤ 2 ^ 26) : (Ideal.fptosi 32 ((z : ℝ) : EReal)).toInt = z := by
  obtain ⟨h1, h2⟩ := abs_le.mp h
  unfold Ideal.fptosi
  have e : max (-((2 ^ (32 - 1) : ℕ) : ℤ)) (min (((2 ^ (32 - 1) : ℕ) : ℤ) - 1) z) = z := by
    rw [min_eq_right (by push_cast; omega), max_eq_right (by push_cast; omega)]
  rw [Ideal.toIntClamped_coe, Int.floor_intCast, Int.ceil_intCast, ite_self, e, BitVec.toInt_ofInt]
  apply Int.bmod_eq_of_le <;> omega

/-- The word of ring `d` on device `c` before hop `n` is the integer sum. -/
theorem val_toInt (d : Bool) : ∀ (n : ℕ), n ≤ 7 → ∀ (c : Dev nD) (t : Fin 4) (r : Fin 512) (j : Fin 1024),
    (val (F := Ideal) xs ws d n c t (ix2 r j) : BitVec 32).toInt = along d (dotAt xs ws d (blk d n c) r (colIn t j)) n c
  | 0, _, c, t, r, j => seedCol_toInt xs ws d c t r j
  | n + 1, hn, c, t, r, j => by
    have ih := val_toInt d n (by omega) (peer c (!d)) t r j
    rw [blk_peer] at ih
    have hb := along_le d (dotAt xs ws d (blk d (n + 1) c) r (colIn t j)) (2 ^ 23) (fun e => dotI_le _ _ _ _)
    have hs := hb n (peer c (!d))
    have hf : |dotAt xs ws d (blk d (n + 1) c) r (colIn t j) c| ≤ 2 ^ 23 := dotI_le _ _ _ _
    have hP : (Ideal.fptosi 32 (cols t (prodAt (F := Ideal) xs ws d (Fin.ofNat 7 n) c) (ix2 r j))).toInt
        = dotAt xs ws d (blk d (n + 1) c) r (colIn t j) c := by
      unfold cols
      rw [show (rCol t).emb (ix2 r j) = ix2 r (colIn t j) from funext fun a => Fin.ext (match a with
        | ⟨0, _⟩ => by show 0 + 1 * r.val = r.val; omega
        | ⟨1, _⟩ => by show 1024 * t.val + 1 * j.val = 1024 * t.val + j.val; omega)]
      rw [prodAt_apply, show (Fin.ofNat 7 n).val = n from Nat.mod_eq_of_lt (by omega)]
      exact fptosi_int _ (hf.trans (by decide))
    have hn7 : (n : ℤ) + 1 ≤ 7 := by omega
    have hs2 : |along d (dotAt xs ws d (blk d (n + 1) c) r (colIn t j)) n (peer c (!d))| ≤ 7 * 2 ^ 23 :=
      hs.trans (mul_le_mul_of_nonneg_right hn7 (by decide))
    obtain ⟨a1, a2⟩ := abs_le.mp hs2
    obtain ⟨b1, b2⟩ := abs_le.mp hf
    show (k0_pay14 (F := Ideal) (k0_pay15 (val (F := Ideal) xs ws d n (peer c (!d)) t)) (cols t (prodAt (F := Ideal) xs ws d (Fin.ofNat 7 n) c)) (ix2 r j)).toInt = _
    unfold k0_pay14 k0_pay15
    simp only [shapeCast_self, shapeCast_shapeCast]
    show ((val (F := Ideal) xs ws d n (peer c (!d)) t (ix2 r j) : BitVec 32)
      + Ideal.fptosi 32 (cols t (prodAt (F := Ideal) xs ws d (Fin.ofNat 7 n) c) (ix2 r j))).toInt = _
    rw [BitVec.toInt_add, ih, hP]
    show _ = along d _ n (peer c (!d)) + _
    apply Int.bmod_eq_of_le <;> omega

/-- The word a ring ends with on device `c`: the product over all the devices' positions, for the device's own rows. -/
theorem val_last (d : Bool) (c : Dev nD) (t : Fin 4) (r : Fin 512) (j : Fin 1024) :
    (val (F := Ideal) xs ws d 7 c t (ix2 r j) : BitVec 32).toInt = ∑ e : Dev nD, dotI (xs e) (ws e) (rowAt c r) (colAt d (colIn t j)) := by
  rw [val_toInt xs ws d 7 le_rfl, along_all, show blk d 7 c = c from Fin.ext (blk_last d c)]

end Cert.KernelIdealProof

end
-- ==== Proof.KernelIdeal.Value.lean ====
/-
# What the kernel computes, over the reals

Device `c` ends with row block `c` of the reference's result. The two agree because the rings' words are the reference's
contraction split by devices, and because the scaling and the activation are the same function of that integer.
-/
module

public import proofs.«01_k».proof.Proof.KernelIdeal.Arith
public import proofs.«01_k».proof.Proof.KernelIdeal.Launch
public import proofs.«01_k».proof.Proof.Gen.ReferenceIdeal.Run
public import Idealize.ShloMosaic.Lib.StackMember
public import Idealize.ShloMosaic.Lib.IdealHost
public import Idealize.ShloMosaic.Lib.Layout

@[expose] public section

noncomputable section

namespace Cert.KernelIdealProof

open Cert.KernelIdeal Cert.KernelIdeal.Gen
open Idealize.ShloMosaic Idealize.SL.Sem
open Idealize.ShloMosaic.TcCoe
open Idealize.ShloMosaic.ValueIdx
open Cert.ReferenceIdeal (S4096x4096 S4096x8192)
open Idealize.ShloMosaic.Pipeline (Dat Cfg Window)
open scoped BigOperators

/-! ## The windows hold the whole arrays -/

section Windows

variable {F : FTy → Type} [FloatOps F]
variable (m : (ℓ : Loc nD τ sig) → Buf (Elt F) ℓ) (ρ : Dev nD → PrngReg)

theorem xIn_eq (c : Dev nD) : xIn m ρ c = m ((c : Thread nD τ).loc main_arg0) :=
  Memref.read_access_unit_zero (Elt F) main_arg0 (funext fun a => by fin_cases a <;> decide) (fun a => by fin_cases a <;> decide) _
theorem wIn_eq (c : Dev nD) : wIn m ρ c = m ((c : Thread nD τ).loc main_arg1) :=
  Memref.read_access_unit_zero (Elt F) main_arg1 (funext fun a => by fin_cases a <;> decide) (fun a => by fin_cases a <;> decide) _
theorem aIn_eq (c : Dev nD) : aIn m ρ c = m ((c : Thread nD τ).loc main_arg2) :=
  Memref.read_access_unit_zero (Elt F) main_arg2 (funext fun a => by fin_cases a; decide) (fun a => by fin_cases a; decide) _
theorem bIn_eq (c : Dev nD) : bIn m ρ c = m ((c : Thread nD τ).loc main_arg3) :=
  Memref.read_access_unit_zero (Elt F) main_arg3 (funext fun a => by fin_cases a; decide) (fun a => by fin_cases a; decide) _

/-- The result array ends with what the body leaves in the staged block. -/
theorem finalA_out (c : Dev nD) : finalA m ρ c (4 : Fin 5) = outIn m ρ c := by
  have h : (win0_4.blk t0_0).view.read (Elt F) ((dats m ρ 0 c).arrAt (4 : Fin 5) cfg0.N) = (dats m ρ 0 c).flushed (4 : Fin 5) t0_0 := by
    rw [show cfg0.N = (t0_0 : Fin cfg0.N).val + 1 from rfl, (dats m ρ 0 c).arrAt_succ (4 : Fin 5) t0_0,
      show (cfg0.win (4 : Fin 5)).flush t0_0 = true from flush0_4 t0_0, if_pos rfl]
    exact View.read_write_univ _ _
  exact (Memref.read_access_unit_zero (Elt F) main_v1 (funext fun a => by fin_cases a <;> decide) (fun a => by fin_cases a <;> decide) _).symm.trans h

end Windows

/-! ## The scaling and the activation -/

/-- `y / (1 + exp (-clip y))`, the clip being to `[-60, 60]`. -/
def act (y : EReal) : EReal :=
  Ideal.div y (Ideal.ofBits .f32 0x3F800000#32 + Ideal.exp (-(min (Ideal.ofBits .f32 0x42700000#32) (max (Ideal.ofBits .f32 0xC2700000#32) y))))

theorem pay2_apply (q : EReal) (acc : S512x1024.Idx → BitVec 32) (i : S512x1024.Idx) :
    k0_pay2 (F := Ideal) q acc i = act ((((acc i).toInt : ℝ) : EReal) * q) := by
  show Ideal.div ((((acc i).toInt : ℝ) : EReal) * q) (Ideal.ofBits .f32 0x3F800000#32 + Ideal.exp (Ideal.ofBits .f32 0x00000000#32
    - min (Ideal.ofBits .f32 0x42700000#32) (max (Ideal.ofBits .f32 0xC2700000#32) ((((acc i).toInt : ℝ) : EReal) * q)))) = _
  rw [Ideal.ofBits_zero_f32, sub_eq_add_neg, zero_add]
  rfl

theorem scaleOf_eq (a b : S1.Idx → EReal) : scaleOf (F := Ideal) a b = a (ix1 (0 : Fin 1)) * b (ix1 (0 : Fin 1)) := by
  have e : ∀ j : S1.Idx, j = ix1 (0 : Fin 1) := fun j => (eq_ix1 j).trans (congrArg ix1 (Subsingleton.elim (α := Fin 1) _ _))
  show a _ * b _ = _
  exact congrArg₂ (fun u v : S1.Idx => a u * b v) (e _) (e _)

/-- The result at row `r`, column `q` of device `c`, from the integer product over all devices. -/
theorem outAt_apply (xs : Dev nD → S4096x512.Idx → BitVec 8) (ws : Dev nD → S512x8192.Idx → BitVec 8) (c : Dev nD) (a b : S1.Idx → EReal)
    (r : Fin 512) (q : Fin 8192) :
    outAt (F := Ideal) xs ws c a b (ix2 r q)
      = act ((((∑ e : Dev nD, dotI (xs e) (ws e) (rowAt c r) q : ℤ) : ℝ) : EReal) * (a (ix1 (0 : Fin 1)) * b (ix1 (0 : Fin 1)))) := by
  unfold outAt fin
  rw [pay2_apply, scaleOf_eq]
  rw [show outIdx (ix2 r q) = ix2 r (⟨q.val % 1024, Nat.mod_lt _ (by decide)⟩ : Fin 1024) from
    funext fun a => Fin.ext (match a with | ⟨0, _⟩ => rfl | ⟨1, _⟩ => rfl)]
  rw [val_last]
  have hq : colAt (outHalf (ix2 r q)) (colIn (outCol (ix2 r q)) (⟨q.val % 1024, Nat.mod_lt _ (by decide)⟩ : Fin 1024)) = q := by
    refine Fin.ext ?_
    have h1 := q.isLt
    show half (decide (4096 ≤ q.val)) + (1024 * (q.val % 4096 / 1024) + q.val % 1024) = q.val
    unfold half
    by_cases h : 4096 ≤ q.val
    · rw [if_pos (by simpa using h)]; omega
    · rw [if_neg (by simpa using h)]; omega
  rw [hq]

/-! ## The reference -/

section Reference

variable (X : S4096x4096.Idx → BitVec 8) (W : S4096x8192.Idx → BitVec 8)

/-- The blocks of the two operands that device `e` holds. -/
abbrev xBlk (e : Dev nD) : S4096x512.Idx → BitVec 8 := Layout.block ⟨2, ![4096, 512]⟩ ⟨2, ![4096, 4096]⟩ 1 8 e X
abbrev wBlk (e : Dev nD) : S512x8192.Idx → BitVec 8 := Layout.block ⟨2, ![512, 8192]⟩ ⟨2, ![4096, 8192]⟩ 0 8 e W

/-- The whole contraction is the sum of the devices' products. -/
theorem dot_split (r : Fin 4096) (q : Fin 8192) :
    (∑ k : Fin 4096, (X (ix2 r k)).toInt * (W (ix2 k q)).toInt) = ∑ e : Dev nD, dotI (xBlk X e) (wBlk W e) r q := by
  refine (Equiv.sum_comp (finProdFinEquiv (m := 8) (n := 512)) (fun k : Fin 4096 => (X (ix2 r k)).toInt * (W (ix2 k q)).toInt)).symm.trans ?_
  rw [Fintype.sum_prod_type]
  refine Finset.sum_congr rfl fun e _ => Finset.sum_congr rfl fun k _ => ?_
  refine congrArg₂ (fun u v : BitVec 8 => u.toInt * v.toInt) (congrArg X (funext fun a => Fin.ext ?_)) (congrArg W (funext fun a => Fin.ext ?_))
  · match a with
    | ⟨0, _⟩ => rfl
    | ⟨1, _⟩ => show k.val + 512 * e.val = e.val * 512 + k.val; omega
  · match a with
    | ⟨0, _⟩ => show k.val + 512 * e.val = e.val * 512 + k.val; omega
    | ⟨1, _⟩ => rfl

/-- A sum of reals that are integers, taken in the extended reals. -/
theorem sum_int {ι : Type} (s : Finset ι) (f : ι → ℤ) : (∑ k ∈ s, ((f k : ℝ) : EReal)) = (((∑ k ∈ s, f k : ℤ) : ℝ) : EReal) := by
  classical
  induction s using Finset.induction_on with
  | empty => simp
  | insert k s hk ih => rw [Finset.sum_insert hk, Finset.sum_insert hk, ih, Int.cast_add, EReal.coe_add]

/-- The reference's accumulator is the integer contraction. -/
theorem ref_dot (r : Fin 4096) (q : Fin 8192) :
    Host.dotGeneral (F := Ideal) Cert.ReferenceIdeal.dot_S4096x4096_S4096x8192_S4096x8192_1_0_0_1_n_n none
        (sitofp .f32 (extsi 32 X Cert.ReferenceIdeal.Gen.natLt_8_32)) (sitofp .f32 (extsi 32 W Cert.ReferenceIdeal.Gen.natLt_8_32)) (ix2 r q)
      = (((∑ e : Dev nD, dotI (xBlk X e) (wBlk W e) r q : ℤ) : ℝ) : EReal) := by
  show Host.dotGeneral (F := Ideal) (DotDims.plain 4096 4096 8192) none _ _ (ix2 r q) = _
  rw [StackMember.dotGeneral_plain_apply, ← dot_split, ← sum_int]
  refine Finset.sum_congr rfl fun k _ => ?_
  show ((((X (ix2 r k)).signExtend 32).toInt : ℝ) : EReal) * ((((W (ix2 k q)).signExtend 32).toInt : ℝ) : EReal) = _
  rw [BitVec.toInt_signExtend_of_le (by decide), BitVec.toInt_signExtend_of_le (by decide), Int.cast_mul, EReal.coe_mul]

end Reference

/-- The reference's scaled accumulator. -/
def refY (X : S4096x4096.Idx → BitVec 8) (W : S4096x8192.Idx → BitVec 8) (a b : S1.Idx → EReal) : S4096x8192.Idx → EReal :=
  mulf (F := Ideal) (φ := .f32) (Host.dotGeneral Cert.ReferenceIdeal.dot_S4096x4096_S4096x8192_S4096x8192_1_0_0_1_n_n none
      (sitofp .f32 (extsi 32 X Cert.ReferenceIdeal.Gen.natLt_8_32)) (sitofp .f32 (extsi 32 W Cert.ReferenceIdeal.Gen.natLt_8_32)))
    (broadcastInDim S4096x8192 ![0, 1] Cert.ReferenceIdeal.Gen.bcast_S1x1_S4096x8192_0_1
      (broadcastInDim Cert.ReferenceIdeal.S1x1 ![1] Cert.ReferenceIdeal.Gen.bcast_S1_S1x1_1 (mulf (F := Ideal) (φ := .f32) a b)))

/-- The reference's result, as its run states it. -/
def refOut (X : S4096x4096.Idx → BitVec 8) (W : S4096x8192.Idx → BitVec 8) (a b : S1.Idx → EReal) : S4096x8192.Idx → EReal :=
  Host.divf (F := Ideal) (φ := .f32) (refY X W a b)
    (addf (broadcastInDim S4096x8192 ![] Cert.ReferenceIdeal.Gen.bcast_S_S4096x8192 (constant Cert.ReferenceIdeal.S_ .f32 0x3F800000#32))
      (Host.exp (Host.negf (minimumf
        (broadcastInDim S4096x8192 ![] Cert.ReferenceIdeal.Gen.bcast_S_S4096x8192 (id (constant Cert.ReferenceIdeal.S_ .f32 0x42700000#32)))
        (maximumf (broadcastInDim S4096x8192 ![] Cert.ReferenceIdeal.Gen.bcast_S_S4096x8192 (id (constant Cert.ReferenceIdeal.S_ .f32 0xC2700000#32)))
          (refY X W a b))))))

theorem refOut_apply (X : S4096x4096.Idx → BitVec 8) (W : S4096x8192.Idx → BitVec 8) (a b : S1.Idx → EReal) (r : Fin 4096) (q : Fin 8192) :
    refOut X W a b (ix2 r q)
      = act ((((∑ e : Dev nD, dotI (xBlk X e) (wBlk W e) r q : ℤ) : ℝ) : EReal) * (a (ix1 (0 : Fin 1)) * b (ix1 (0 : Fin 1)))) := by
  have hs : refY X W a b (ix2 r q)
      = (((∑ e : Dev nD, dotI (xBlk X e) (wBlk W e) r q : ℤ) : ℝ) : EReal) * (a (ix1 (0 : Fin 1)) * b (ix1 (0 : Fin 1))) := by
    rw [← ref_dot]
    have e : ∀ j : S1.Idx, j = ix1 (0 : Fin 1) := fun j => (eq_ix1 j).trans (congrArg ix1 (Subsingleton.elim (α := Fin 1) _ _))
    exact congrArg (_ * ·) (congrArg₂ (fun u v : S1.Idx => a u * b v) (e _) (e _))
  rw [← hs]
  unfold refOut
  generalize refY X W a b = y
  rfl

/-! ## The kernel's result -/

/-- Device `c` ends with row block `c` of the reference's result. -/
theorem out_value (X : S4096x4096.Idx → BitVec 8) (W : S4096x8192.Idx → BitVec 8) (a b : S1.Idx → EReal) (c : Dev nD) :
    outAt (F := Ideal) (xBlk X) (wBlk W) c a b = Layout.block ⟨2, ![512, 8192]⟩ ⟨2, ![4096, 8192]⟩ 0 8 c (refOut X W a b) := by
  funext i
  obtain ⟨r, q, rfl⟩ : ∃ (r : Fin 512) (q : Fin 8192), i = ix2 r q := ⟨i 0, i 1, eq_ix2 i⟩
  rw [outAt_apply, Layout.block_apply, ← refOut_apply]
  refine congrArg (refOut X W a b) (funext fun k => Fin.ext ?_)
  match k with
  | ⟨0, _⟩ => show 512 * c.val + r.val = c.val * 512 + r.val; omega
  | ⟨1, _⟩ => rfl

/-- Over the reals, from memories in which every device holds its blocks of `X` and of `W` and the two scales, every fair
    execution ends with device `c` holding row block `c` of the reference's result and its arguments unchanged. -/
theorem run_value (m : (ℓ : Loc nD τ sig) → Buf (Elt Ideal) ℓ) (ρ : Dev nD → PrngReg)
    (X : S4096x4096.Idx → BitVec 8) (W : S4096x8192.Idx → BitVec 8) (a b : S1.Idx → EReal)
    (hx : ∀ c : Dev nD, m ((c : Thread nD τ).loc main_arg0) = xBlk X c) (hw : ∀ c : Dev nD, m ((c : Thread nD τ).loc main_arg1) = wBlk W c)
    (ha : ∀ c : Dev nD, m ((c : Thread nD τ).loc main_arg2) = a) (hb : ∀ c : Dev nD, m ((c : Thread nD τ).loc main_arg3) = b) :
    θ_run (defs (F := Ideal)) (onTc (τ := τ) (main (F := Ideal))) ⟨m, fun _ => 0, ρ⟩ (fun r => ∀ c : Dev nD,
      r.2.mem ((c : Thread nD τ).loc main_v1) = Layout.block ⟨2, ![512, 8192]⟩ ⟨2, ![4096, 8192]⟩ 0 8 c (refOut X W a b)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r h c => ?_) (run_main (F := Ideal) m ρ)
  have hX : xIn m ρ = xBlk X := funext fun e => (xIn_eq m ρ e).trans (hx e)
  have hW : wIn m ρ = wBlk W := funext fun e => (wIn_eq m ρ e).trans (hw e)
  have ho : outIn m ρ c = Layout.block ⟨2, ![512, 8192]⟩ ⟨2, ![4096, 8192]⟩ 0 8 c (refOut X W a b) := by
    unfold outIn
    rw [hX, hW, (aIn_eq m ρ c).trans (ha c), (bIn_eq m ρ c).trans (hb c)]
    exact out_value X W a b c
  exact ⟨((h.1 c 4).trans (finalA_out m ρ c)).trans ho, (h.1 c 0).trans (finalA_x m ρ c), (h.1 c 1).trans (finalA_w m ρ c),
    (h.1 c 2).trans (finalA_a m ρ c), (h.1 c 3).trans (finalA_b m ρ c)⟩

end Cert.KernelIdealProof

end
-- ==== Proof.lean ====
/-
# The certificate

The three frames come from the runs of the three programs. The kernel and its idealization run by the same argument at
two float instances; the reference is a sequence of host operations. The value claim is the idealized kernel's run with
its result read as a row block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- Every fair execution of the kernel ends, with its arguments unchanged and every counter at zero. -/
theorem frame_kernel : Cert.quiescent_Kernel := fun m g _ =>
  θ_run_mono (Cert.KernelProof.run_main (F := Bits) m g) fun _ h =>
    ⟨fun c => ⟨(h.1 c 0).trans (Cert.KernelProof.finalA_x m g c), (h.1 c 1).trans (Cert.KernelProof.finalA_w m g c),
      (h.1 c 2).trans (Cert.KernelProof.finalA_a m g c), (h.1 c 3).trans (Cert.KernelProof.finalA_b m g c)⟩, h.2⟩

/-- So does every fair execution of its idealization. -/
theorem frame_ideal : Cert.quiescent_KernelIdeal := fun m g _ =>
  θ_run_mono (Cert.KernelIdealProof.run_main (F := Ideal) m g) fun _ h =>
    ⟨fun c => ⟨(h.1 c 0).trans (Cert.KernelIdealProof.finalA_x m g c), (h.1 c 1).trans (Cert.KernelIdealProof.finalA_w m g c),
      (h.1 c 2).trans (Cert.KernelIdealProof.finalA_a m g c), (h.1 c 3).trans (Cert.KernelIdealProof.finalA_b m g c)⟩, h.2⟩

/-- And of the reference, which has no semaphores. -/
theorem frame_reference : Cert.quiescent_ReferenceIdeal := fun m g _ =>
  θ_run_mono (Cert.ReferenceIdeal.Value.run (F := Ideal) m g) fun r h =>
    ⟨fun c => (h c).2, sem_eq_zero_of_no_sems (by decide) r.2⟩

/-- Over the reals, device `c`'s result is row block `c` of the reference's, where the devices hold the blocks of the
    reference's arguments. -/
theorem value : Cert.algebraic_KernelIdeal_ReferenceIdeal := fun m g m' g' _ h =>
  ⟨_, Cert.KernelIdealProof.run_value m g _ _ _ _ (fun c => (h c).1) (fun c => (h c).2.1) (fun c => (h c).2.2.1) (fun c => (h c).2.2.2),
    θ_run_mono (Cert.ReferenceIdeal.Value.run (F := Ideal) m' g') fun _ hr => hr 0⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
